-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S1024x256 : Shape := ⟨2, ![1024, 256]⟩
abbrev S1024x256x256 : Shape := ⟨3, ![1024, 256, 256]⟩
abbrev S512x1 : Shape := ⟨2, ![512, 1]⟩
abbrev S1 : Shape := ⟨1, ![1]⟩
abbrev S512x256 : Shape := ⟨2, ![512, 256]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x256x256 : S_.BroadcastsInDim S1024x256x256 (![] : Fin 0 → Fin S1024x256x256.rank)
  reducesTo_S1024x256x256_S_d0_1_2 : S1024x256x256.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_arg10 : FVec F S256 .f32) (main_arg11 : FVec F S256 .f32) (main_v29 : IVec S_ 1) (main_v32 : IVec S_ 1) : IVec S_ 1 :=
  let main_cst_13 : FVec F S_ .f32 := constant S_ .f32 0x3F800000#32
  let main_v33 : FVec F S256 .f32 := broadcastInDim S256 ![] bcast_S_S256 main_cst_13
  let main_v34 : IVec S256 1 := cmpf .oeq main_arg10 main_v33
  let main_c_14 : IVec S_ 1 := constantI S_ 1 1#1
  let main_v35 : IVec S_ 1 := (fun x v => Host.reduce IntOp.andi x v reducesTo_S256_S_d0 h_S_) main_v34 main_c_14
  let main_v36 : IVec S_ 1 := andi main_v32 main_v35
  let main_cst_15 : FVec F S_ .f32 := constant S_ .f32 0x00000000#32
  let main_v37 : FVec F S256 .f32 := broadcastInDim S256 ![] bcast_S_S256 main_cst_15
  let main_v38 : IVec S256 1 := cmpf .oeq main_arg9 main_v37
  let main_c_16 : IVec S_ 1 := constantI S_ 1 1#1
  let main_v39 : IVec S_ 1 := (fun x v => Host.reduce IntOp.andi x v reducesTo_S256_S_d0 h_S_) main_v38 main_c_16
  let main_cst_17 : FVec F S_ .f32 := constant S_ .f32 0x00000000#32
  let main_v40 : FVec F S256 .f32 := broadcastInDim S256 ![] bcast_S_S256 main_cst_17
  let main_v41 : IVec S256 1 := cmpf .oeq main_arg11 main_v40
  let main_c_18 : IVec S_ 1 := constantI S_ 1 1#1
  let main_v42 : IVec S_ 1 := (fun x v => Host.reduce IntOp.andi x v reducesTo_S256_S_d0 h_S_) main_v41 main_c_18
  let main_v43 : IVec S_ 1 := andi main_v39 main_v42
  let main_v44 : IVec S_ 1 := andi main_v29 main_v36
  let main_v45 : IVec S_ 1 := andi main_v44 main_v43
  main_v45

def fn_part1 {F : FTy → Type} [FloatOps F] (main_arg6 : FVec F S512x256 .f32) (main_arg7 : FVec F S256 .f32) (main_arg8 : FVec F S256 .f32) (main_arg9 : FVec F S256 .f32) (main_arg10 : FVec F S256 .f32) (main_arg11 : FVec F S256 .f32) (main_v14 : IVec S_ 1) (main_v15 : FVec F S1024x256x256 .f32) (main_cst_5 : FVec F S_ .f32) : IVec S_ 1 :=
  let main_v16 : FVec F S1024x256x256 .f32 := broadcastInDim S1024x256x256 ![] bcast_S_S1024x256x256 main_cst_5
  let main_v17 : IVec S1024x256x256 1 := cmpf .olt main_v15 main_v16
  let main_c_6 : IVec S_ 1 := constantI S_ 1 1#1
  let main_v18 : IVec S_ 1 := (fun x v => Host.reduce IntOp.andi x v reducesTo_S1024x256x256_S_d0_1_2 h_S_) main_v17 main_c_6
  let main_v19 : IVec S_ 1 := andi main_v14 main_v18
  let main_v20 : FVec F S512x256 .f32 := Host.absf main_arg6
  let main_cst_7 : FVec F S_ .f32 := constant S_ .f32 0x7F800000#32
  let main_v21 : FVec F S512x256 .f32 := broadcastInDim S512x256 ![] bcast_S_S512x256 main_cst_7
  let main_v22 : IVec S512x256 1 := cmpf .olt main_v20 main_v21
  let main_c_8 : IVec S_ 1 := constantI S_ 1 1#1
  let main_v23 : IVec S_ 1 := (fun x v => Host.reduce IntOp.andi x v reducesTo_S512x256_S_d0_1 h_S_) main_v22 main_c_8
  let main_v24 : IVec S_ 1 := andi main_v19 main_v23
  let main_v25 : FVec F S256 .f32 := Host.absf main_arg7
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_cst_11 : FVec F S_ .f32 := constant S_ .f32 0x3F800000#32
  let main_v30 : FVec F S256 .f32 := broadcastInDim S256 ![] bcast_S_S256 main_cst_11
  let main_v31 : IVec S256 1 := cmpf .oeq main_arg8 main_v30
  let main_c_12 : IVec S_ 1 := constantI S_ 1 1#1
  let main_v32 : IVec S_ 1 := (fun x v => Host.reduce IntOp.andi x v reducesTo_S256_S_d0 h_S_) main_v31 main_c_12
  fn_part2 (F := F) main_arg9 main_arg10 main_arg11 main_v29 main_v32

def fn {F : FTy → Type} [FloatOps F] (main_arg0 : FVec F S1024x256 .f32) (main_arg1 : FVec F S1024x256 .f32) (main_arg2 : FVec F S1024x256x256 .f32) (main_arg3 : FVec F S1024x256x256 .f32) (main_arg4 : FVec F S512x1 .f32) (main_arg5 : FVec F S1 .f32) (main_arg6 : FVec F S512x256 .f32) (main_arg7 : FVec F S256 .f32) (main_arg8 : FVec F S256 .f32) (main_arg9 : FVec F S256 .f32) (main_arg10 : FVec F S256 .f32) (main_arg11 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_c_0 : IVec S_ 1 := constantI S_ 1 1#1
  let main_v4 : IVec S_ 1 := andi main_c_0 main_v3
  let main_v5 : FVec F S1024x256 .f32 := Host.absf main_arg1
  let main_cst_1 : FVec F S_ .f32 := constant S_ .f32 0x7F800000#32
  let main_v6 : FVec F S1024x256 .f32 := broadcastInDim S1024x256 ![] bcast_S_S1024x256 main_cst_1
  let main_v7 : IVec S1024x256 1 := cmpf .olt main_v5 main_v6
  let main_c_2 : IVec S_ 1 := constantI S_ 1 1#1
  let main_v8 : IVec S_ 1 := (fun x v => Host.reduce IntOp.andi x v reducesTo_S1024x256_S_d0_1 h_S_) main_v7 main_c_2
  let main_v9 : IVec S_ 1 := andi main_v4 main_v8
  let main_v10 : FVec F S1024x256x256 .f32 := Host.absf main_arg2
  let main_cst_3 : FVec F S_ .f32 := constant S_ .f32 0x7F800000#32
  let main_v11 : FVec F S1024x256x256 .f32 := broadcastInDim S1024x256x256 ![] bcast_S_S1024x256x256 main_cst_3
  let main_v12 : IVec S1024x256x256 1 := cmpf .olt main_v10 main_v11
  let main_c_4 : IVec S_ 1 := constantI S_ 1 1#1
  let main_v13 : IVec S_ 1 := (fun x v => Host.reduce IntOp.andi x v reducesTo_S1024x256x256_S_d0_1_2 h_S_) main_v12 main_c_4
  let main_v14 : IVec S_ 1 := andi main_v9 main_v13
  let main_v15 : FVec F S1024x256x256 .f32 := Host.absf main_arg3
  let main_cst_5 : FVec F S_ .f32 := constant S_ .f32 0x7F800000#32
  fn_part1 (F := F) main_arg6 main_arg7 main_arg8 main_arg9 main_arg10 main_arg11 main_v14 main_v15 main_cst_5
-- ==== Kernel.lean ====
abbrev S1024x256 : Shape := ⟨2, ![1024, 256]⟩
abbrev S1024x256x256 : Shape := ⟨3, ![1024, 256, 256]⟩
abbrev S512x1 : Shape := ⟨2, ![512, 1]⟩
abbrev S1 : Shape := ⟨1, ![1]⟩
abbrev S512x256 : Shape := ⟨2, ![512, 256]⟩
abbrev S256 : Shape := ⟨1, ![256]⟩
abbrev S1x1 : Shape := ⟨2, ![1, 1]⟩
abbrev S1x256 : Shape := ⟨2, ![1, 256]⟩
abbrev S128x256 : Shape := ⟨2, ![128, 256]⟩
abbrev S128x512 : Shape := ⟨2, ![128, 512]⟩
abbrev S128x1 : Shape := ⟨2, ![128, 1]⟩
abbrev S128 : Shape := ⟨1, ![128]⟩
abbrev S1x128x256 : Shape := ⟨3, ![1, 128, 256]⟩
abbrev S1x1x1 : Shape := ⟨3, ![1, 1, 1]⟩
abbrev S16x256 : Shape := ⟨2, ![16, 256]⟩
abbrev S16x256x256 : Shape := ⟨3, ![16, 256, 256]⟩
abbrev S16x1x256 : Shape := ⟨3, ![16, 1, 256]⟩
abbrev S4096x256 : Shape := ⟨2, ![4096, 256]⟩
abbrev S4096x16 : Shape := ⟨2, ![4096, 16]⟩
abbrev S16x256x16 : Shape := ⟨3, ![16, 256, 16]⟩
abbrev S16 : Shape := ⟨1, ![16]⟩
abbrev S16x1 : Shape := ⟨2, ![16, 1]⟩
abbrev S16x256x1 : Shape := ⟨3, ![16, 256, 1]⟩
abbrev S1x4096 : Shape := ⟨2, ![1, 4096]⟩
abbrev S16x4096 : Shape := ⟨2, ![16, 4096]⟩
abbrev S_ : Shape := ⟨0, ![]⟩

abbrev nBuf : Space → Nat
  | .hbm => 21
  | .vmem => 29
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256x256, .f32⟩
  | .hbm, ⟨3, _⟩ => ⟨S1024x256x256, .f32⟩
  | .hbm, ⟨4, _⟩ => ⟨S512x1, .f32⟩
  | .hbm, ⟨5, _⟩ => ⟨S1, .f32⟩
  | .hbm, ⟨6, _⟩ => ⟨S512x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S1x1, .f32⟩
  | .hbm, ⟨13, _⟩ => ⟨S1x256, .f32⟩
  | .hbm, ⟨14, _⟩ => ⟨S1024x256, .f32⟩
  | .hbm, ⟨15, _⟩ => ⟨S1x1, .f32⟩
  | .hbm, ⟨16, _⟩ => ⟨S1024x256, .f32⟩
  | .hbm, ⟨17, _⟩ => ⟨S1024x256, .f32⟩
  | .hbm, ⟨18, _⟩ => ⟨S1024x256x256, .f32⟩
  | .hbm, ⟨19, _⟩ => ⟨S1024x256x256, .f32⟩
  | .hbm, ⟨20, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S512x1, .f32⟩
  | .local _ .vmem, ⟨5, _⟩ => ⟨S1x1, .f32⟩
  | .local _ .vmem, ⟨6, _⟩ => ⟨S512x256, .f32⟩
  | .local _ .vmem, ⟨7, _⟩ => ⟨S1x256, .f32⟩
  | .local _ .vmem, ⟨8, _⟩ => ⟨S128x256, .f32⟩
  | .local _ .vmem, ⟨9, _⟩ => ⟨S128x256, .f32⟩
  | .local _ .vmem, ⟨10, _⟩ => ⟨S1x1, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S16x256x256, .f32⟩
  | .local _ .vmem, ⟨16, _⟩ => ⟨S16x256x256, .f32⟩
  | .local _ .vmem, ⟨17, _⟩ => ⟨S16x256x256, .f32⟩
  | .local _ .vmem, ⟨18, _⟩ => ⟨S16x256x256, .f32⟩
  | .local _ .vmem, ⟨19, _⟩ => ⟨S16x256, .f32⟩
  | .local _ .vmem, ⟨20, _⟩ => ⟨S16x256, .f32⟩
  | .local _ .vmem, ⟨21, _⟩ => ⟨S16x256, .f32⟩
  | .local _ .vmem, ⟨22, _⟩ => ⟨S16x256, .f32⟩
  | .local _ .vmem, ⟨23, _⟩ => ⟨S16x256, .f32⟩
  | .local _ .vmem, ⟨24, _⟩ => ⟨S16x256, .f32⟩
  | .local _ .vmem, ⟨25, _⟩ => ⟨S16x256x256, .f32⟩
  | .local _ .vmem, ⟨26, _⟩ => ⟨S16x256x256, .f32⟩
  | .local _ .vmem, ⟨27, _⟩ => ⟨S16x256x256, .f32⟩
  | .local _ .vmem, ⟨28, _⟩ => ⟨S16x256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_v3_3 : Ref sig .tc := ⟨.hbm, 19, rfl⟩
abbrev main_v4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S16x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S16x256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S1024x256 : Shape := ⟨2, ![1024, 256]⟩
abbrev S1024x256x256 : Shape := ⟨3, ![1024, 256, 256]⟩
abbrev S512x1 : Shape := ⟨2, ![512, 1]⟩
abbrev S1 : Shape := ⟨1, ![1]⟩
abbrev S512x256 : Shape := ⟨2, ![512, 256]⟩
abbrev S256 : Shape := ⟨1, ![256]⟩
abbrev S1024x1x256 : Shape := ⟨3, ![1024, 1, 256]⟩
abbrev S_ : Shape := ⟨0, ![]⟩
abbrev S1024 : Shape := ⟨1, ![1024]⟩
abbrev S1024x1 : Shape := ⟨2, ![1024, 1]⟩
abbrev S1024x256x1 : Shape := ⟨3, ![1024, 256, 1]⟩
abbrev S1024x512 : Shape := ⟨2, ![1024, 512]⟩
abbrev S1x1 : Shape := ⟨2, ![1, 1]⟩
abbrev S1024x1x1 : Shape := ⟨3, ![1024, 1, 1]⟩
abbrev S1x256 : Shape := ⟨2, ![1, 256]⟩
abbrev S1024x3 : Shape := ⟨2, ![1024, 3]⟩
abbrev S1024x3x1 : Shape := ⟨3, ![1024, 3, 1]⟩
abbrev S1024x3x2 : Shape := ⟨3, ![1024, 3, 2]⟩
abbrev S1x1x256 : Shape := ⟨3, ![1, 1, 256]⟩

abbrev nBuf : Space → Nat
  | .hbm => 210
  | .vmem => 0
  | .smem => 0
  | _ => 0

abbrev hbmTy0_0 (i : Nat) : BufTy := match i % 128 with
  | 0 => ⟨S1024x256, .f32⟩
  | 1 => ⟨S1024x256, .f32⟩
  | 2 => ⟨S1024x256x256, .f32⟩
  | 3 => ⟨S1024x256x256, .f32⟩
  | 4 => ⟨S512x1, .f32⟩
  | 5 => ⟨S1, .f32⟩
  | 6 => ⟨S512x256, .f32⟩
  | 7 => ⟨S256, .f32⟩
  | 8 => ⟨S256, .f32⟩
  | 9 => ⟨S256, .f32⟩
  | 10 => ⟨S256, .f32⟩
  | 11 => ⟨S256, .f32⟩
  | 12 => ⟨S1024x1x256, .f32⟩
  | 13 => ⟨S1024x1x256, .f32⟩
  | 14 => ⟨S1024x256x256, .f32⟩
  | 15 => ⟨S1024x256x256, .f32⟩
  | 16 => ⟨S1024x256x256, .f32⟩
  | 17 => ⟨S1024x256x256, .f32⟩
  | 18 => ⟨S1024x256x256, .f32⟩
  | 19 => ⟨S_, .f32⟩
  | 20 => ⟨S1024x256, .f32⟩
  | 21 => ⟨S_, .f32⟩
  | 22 => ⟨S1024, .f32⟩
  | 23 => ⟨S1024x1, .f32⟩
  | 24 => ⟨S1024x256, .f32⟩
  | 25 => ⟨S1024x256, .f32⟩
  | 26 => ⟨S_, .f32⟩
  | 27 => ⟨S1024, .f32⟩
  | 28 => ⟨S_, .f32⟩
  | 29 => ⟨S1024, .f32⟩
  | 30 => ⟨S1024, .f32⟩
  | 31 => ⟨S1024x1, .f32⟩
  | 32 => ⟨S1024x256, .f32⟩
  | 33 => ⟨S1024x256, .f32⟩
  | 34 => ⟨S1024x256, .f32⟩
  | 35 => ⟨S_, .f32⟩
  | 36 => ⟨S1024, .f32⟩
  | 37 => ⟨S1024x1, .f32⟩
  | 38 => ⟨S1024x256, .f32⟩
  | 39 => ⟨S1024x256, .f32⟩
  | 40 => ⟨S1024x256x1, .f32⟩
  | 41 => ⟨S1024x256x256, .f32⟩
  | 42 => ⟨S1024x256x256, .f32⟩
  | 43 => ⟨S_, .f32⟩
  | 44 => ⟨S1024x256, .f32⟩
  | 45 => ⟨S1024x256x256, .f32⟩
  | 46 => ⟨S1024x256x256, .f32⟩
  | 47 => ⟨S_, .f32⟩
  | 48 => ⟨S1024x256, .f32⟩
  | 49 => ⟨S1024x512, .f32⟩
  | 50 => ⟨S1024x1, .f32⟩
  | 51 => ⟨S1x1, .f32⟩
  | 52 => ⟨S1024x1, .f32⟩
  | 53 => ⟨S1024x1, .f32⟩
  | 54 => ⟨S1024x1, .f32⟩
  | 55 => ⟨S1024x1, .f32⟩
  | 56 => ⟨S_, .f32⟩
  | 57 => ⟨S1024x1, .f32⟩
  | 58 => ⟨S1024x1, .f32⟩
  | 59 => ⟨S_, .f32⟩
  | 60 => ⟨S1024x1, .f32⟩
  | 61 => ⟨S1024x1, .f32⟩
  | 62 => ⟨S1024x1x1, .f32⟩
  | 63 => ⟨S1024x256, .f32⟩
  | 64 => ⟨S1x256, .f32⟩
  | 65 => ⟨S1024x256, .f32⟩
  | 66 => ⟨S1024x256, .f32⟩
  | 67 => ⟨S_, .f32⟩
  | 68 => ⟨S1024, .f32⟩
  | 69 => ⟨S1024x1, .f32⟩
  | 70 => ⟨S1024x256, .f32⟩
  | 71 => ⟨S1024x256, .f32⟩
  | 72 => ⟨S_, .f32⟩
  | 73 => ⟨S1024, .f32⟩
  | 74 => ⟨S_, .f32⟩
  | 75 => ⟨S1024, .f32⟩
  | 76 => ⟨S1024, .f32⟩
  | 77 => ⟨S1024x1, .f32⟩
  | 78 => ⟨S1024x256, .f32⟩
  | 79 => ⟨S1024x256, .f32⟩
  | 80 => ⟨S1024x256, .f32⟩
  | 81 => ⟨S_, .f32⟩
  | 82 => ⟨S1024, .f32⟩
  | 83 => ⟨S1024x1, .f32⟩
  | 84 => ⟨S1024x256, .f32⟩
  | 85 => ⟨S1024x256, .f32⟩
  | 86 => ⟨S_, .f32⟩
  | 87 => ⟨S1024x256, .f32⟩
  | 88 => ⟨S1024x256, .f32⟩
  | 89 => ⟨S1024x256, .f32⟩
  | 90 => ⟨S1024x256, .f32⟩
  | 91 => ⟨S_, .f32⟩
  | 92 => ⟨S1024, .f32⟩
  | 93 => ⟨S_, .f32⟩
  | 94 => ⟨S_, .f32⟩
  | 95 => ⟨S_, .f32⟩
  | 96 => ⟨S_, .f32⟩
  | 97 => ⟨S_, .f32⟩
  | 98 => ⟨S1024x3, .f32⟩
  | 99 => ⟨S1024x3, .i32⟩
  | 100 => ⟨S1024, .i32⟩
  | 101 => ⟨S1024x1, .i32⟩
  | 102 => ⟨S_, .f32⟩
  | 103 => ⟨S1024x256, .f32⟩
  | 104 => ⟨S_, .i32⟩
  | 105 => ⟨S1024x1, .i32⟩
  | 106 => ⟨S1024x1, .i1⟩
  | 107 => ⟨S_, .i32⟩
  | 108 => ⟨S1024x1, .i32⟩
  | 109 => ⟨S1024x1, .i32⟩
  | 110 => ⟨S1024x1, .i32⟩
  | 111 => ⟨S_, .i32⟩
  | 112 => ⟨S1024x3, .i32⟩
  | 113 => ⟨S1024x3, .i1⟩
  | 114 => ⟨S_, .i32⟩
  | 115 => ⟨S1024x3, .i32⟩
  | 116 => ⟨S1024x3, .i32⟩
  | 117 => ⟨S1024x3, .i32⟩
  | 118 => ⟨S1024x3, .i32⟩
  | 119 => ⟨S1024x3x1, .i32⟩
  | 120 => ⟨S1024x3x1, .i32⟩
  | 121 => ⟨S1024x3x2, .i32⟩
  | 122 => ⟨S1024x256, .f32⟩
  | 123 => ⟨S_, .f32⟩
  | 124 => ⟨S1024, .f32⟩
  | 125 => ⟨S1024x1, .f32⟩
  | 126 => ⟨S_, .f32⟩
  | 127 => ⟨S1024x1, .f32⟩
  | _ => ⟨S1024x256, .f32⟩

abbrev hbmTy0_1 (i : Nat) : BufTy := match i % 128 with
  | 0 => ⟨S1024x1, .f32⟩
  | 1 => ⟨S1024x256, .f32⟩
  | 2 => ⟨S1024x256, .f32⟩
  | 3 => ⟨S1024x256x1, .f32⟩
  | 4 => ⟨S1024x256x1, .f32⟩
  | 5 => ⟨S1024x256x1, .f32⟩
  | 6 => ⟨S_, .f32⟩
  | 7 => ⟨S1024x256x1, .f32⟩
  | 8 => ⟨S1024x256x1, .f32⟩
  | 9 => ⟨S1024x256x256, .f32⟩
  | 10 => ⟨S1024x256x256, .f32⟩
  | 11 => ⟨S1024x256x256, .f32⟩
  | 12 => ⟨S1024x256x256, .f32⟩
  | 13 => ⟨S1024x256x256, .f32⟩
  | 14 => ⟨S1024x256x256, .f32⟩
  | 15 => ⟨S_, .f32⟩
  | 16 => ⟨S1024x256x1, .f32⟩
  | 17 => ⟨S1024x256x1, .f32⟩
  | 18 => ⟨S1024x256x256, .f32⟩
  | 19 => ⟨S1024x256x256, .f32⟩
  | 20 => ⟨S1024x256x256, .f32⟩
  | 21 => ⟨S1024x256x256, .f32⟩
  | 22 => ⟨S1024x256x256, .f32⟩
  | 23 => ⟨S1024x256x256, .f32⟩
  | 24 => ⟨S_, .f32⟩
  | 25 => ⟨S1024x256, .f32⟩
  | 26 => ⟨S1024x256x1, .f32⟩
  | 27 => ⟨S_, .f32⟩
  | 28 => ⟨S1024x256x1, .f32⟩
  | 29 => ⟨S1024x256x1, .f32⟩
  | 30 => ⟨S1024x256x256, .f32⟩
  | 31 => ⟨S1024x256x256, .f32⟩
  | 32 => ⟨S1024x256x256, .f32⟩
  | 33 => ⟨S_, .f32⟩
  | 34 => ⟨S1024x256, .f32⟩
  | 35 => ⟨S1024x256x1, .f32⟩
  | 36 => ⟨S_, .f32⟩
  | 37 => ⟨S1024x256x1, .f32⟩
  | 38 => ⟨S1024x256x1, .f32⟩
  | 39 => ⟨S1024x256x256, .f32⟩
  | 40 => ⟨S1024x256x256, .f32⟩
  | 41 => ⟨S_, .f32⟩
  | 42 => ⟨S1024x256x1, .f32⟩
  | 43 => ⟨S1024x256x1, .f32⟩
  | 44 => ⟨S1024x256x1, .f32⟩
  | 45 => ⟨S1024x256x256, .f32⟩
  | 46 => ⟨S1024x256x256, .f32⟩
  | 47 => ⟨S1x1x256, .f32⟩
  | 48 => ⟨S1024x256x256, .f32⟩
  | 49 => ⟨S1024x256x256, .f32⟩
  | 50 => ⟨S1x1x256, .f32⟩
  | 51 => ⟨S1024x256x256, .f32⟩
  | 52 => ⟨S1024x256x256, .f32⟩
  | 53 => ⟨S_, .f32⟩
  | 54 => ⟨S1024x256, .f32⟩
  | 55 => ⟨S1024x256x1, .f32⟩
  | 56 => ⟨S_, .f32⟩
  | 57 => ⟨S1024x256x1, .f32⟩
  | 58 => ⟨S1024x256x1, .f32⟩
  | 59 => ⟨S1024x256x256, .f32⟩
  | 60 => ⟨S1024x256x256, .f32⟩
  | 61 => ⟨S1024x256x256, .f32⟩
  | 62 => ⟨S_, .f32⟩
  | 63 => ⟨S1024x256, .f32⟩
  | 64 => ⟨S1024x256x1, .f32⟩
  | 65 => ⟨S_, .f32⟩
  | 66 => ⟨S1024x256x1, .f32⟩
  | 67 => ⟨S1024x256x1, .f32⟩
  | 68 => ⟨S1024x256x256, .f32⟩
  | 69 => ⟨S1024x256x256, .f32⟩
  | 70 => ⟨S_, .f32⟩
  | 71 => ⟨S1024x256x1, .f32⟩
  | 72 => ⟨S1024x256x1, .f32⟩
  | 73 => ⟨S1024x256x1, .f32⟩
  | 74 => ⟨S1024x256x256, .f32⟩
  | 75 => ⟨S1024x256x256, .f32⟩
  | 76 => ⟨S1x1x256, .f32⟩
  | 77 => ⟨S1024x256x256, .f32⟩
  | 78 => ⟨S1024x256x256, .f32⟩
  | 79 => ⟨S1x1x256, .f32⟩
  | 80 => ⟨S1024x256x256, .f32⟩
  | 81 => ⟨S1024x256x256, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_values : Ref sig .tc := ⟨.hbm, 98, rfl⟩
abbrev main_indices : Ref sig .tc := ⟨.hbm, 99, rfl⟩
abbrev main_v69 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_c : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_20 : Ref sig .tc := ⟨.hbm, 123, rfl⟩
abbrev main_v87 : Ref sig .tc := ⟨.hbm, 124, rfl⟩
abbrev main_v88 : Ref sig .tc := ⟨.hbm, 125, rfl⟩
abbrev main_cst_21 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_24 : Ref sig .tc := ⟨.hbm, 152, rfl⟩
abbrev main_v112 : Ref sig .tc := ⟨.hbm, 153, rfl⟩
abbrev main_v113 : Ref sig .tc := ⟨.hbm, 154, rfl⟩
abbrev main_cst_25 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_26 : Ref sig .tc := ⟨.hbm, 161, rfl⟩
abbrev main_v119 : Ref sig .tc := ⟨.hbm, 162, rfl⟩
abbrev main_v120 : Ref sig .tc := ⟨.hbm, 163, rfl⟩
abbrev main_cst_27 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_28 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_29 : Ref sig .tc := ⟨.hbm, 181, rfl⟩
abbrev main_v136 : Ref sig .tc := ⟨.hbm, 182, rfl⟩
abbrev main_v137 : Ref sig .tc := ⟨.hbm, 183, rfl⟩
abbrev main_cst_30 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_31 : Ref sig .tc := ⟨.hbm, 190, rfl⟩
abbrev main_v143 : Ref sig .tc := ⟨.hbm, 191, rfl⟩
abbrev main_v144 : Ref sig .tc := ⟨.hbm, 192, rfl⟩
abbrev main_cst_32 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_33 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩

abbrev nD : Nat := 1
abbrev τ : Topo := Topo.v7x

variable {F : FTy → Type} [FloatOps F]
-- ==== Proof.Spec.lean ====
/-
  The step the kernel computes, on real numbers, one batch row at a time: the two softmaxes, the gate, the three
  greatest write weights, the blended memories and their normalisation. Both programs are shown equal to these
  functions; nothing here mentions a program.
-/
module

public import Idealize.ShloMosaic.PureOps.Ideal

@[expose] public section

noncomputable section

namespace Cert.Row

open Finset

/-- The constant that guards the two norms' variance and the sparse weights' sum (1e-6 as the programs write it). -/
def ε6 : ℝ := (Idealize.ShloMosaic.Ideal.ofBits .f32 0x358637BD#32).toReal

/-- The constant under the entropy's logarithm (1e-10 as the programs write it). -/
def ε10 : ℝ := (Idealize.ShloMosaic.Ideal.ofBits .f32 0x2EDBE6FF#32).toReal

/-- The softmax of a finite family. -/
def softmax {n : ℕ} (x : Fin n → ℝ) (i : Fin n) : ℝ := Real.exp (x i) / ∑ j, Real.exp (x j)

/-- The similarity of the state with slot `s` of the memory, real and imaginary parts summed. -/
def sim (qr qi : Fin 256 → ℝ) (mr mi : Fin 256 → Fin 256 → ℝ) (s : Fin 256) : ℝ :=
  ∑ d, (mr s d * qr d + mi s d * qi d)

/-- What is read from a memory under the weights `w`. -/
def read (w : Fin 256 → ℝ) (m : Fin 256 → Fin 256 → ℝ) (d : Fin 256) : ℝ := ∑ s, w s * m s d

/-- The state's real part followed by its imaginary part. -/
def cat (qr qi : Fin 256 → ℝ) (k : Fin 512) : ℝ :=
  if h : k.val < 256 then qr ⟨k.val, h⟩ else qi ⟨k.val - 256, by omega⟩

/-- The write gate: the logistic function of an affine map of the state. The map's weights and its bias may be infinite;
    the gate is a real number all the same. -/
def gate (x : Fin 512 → ℝ) (W : Fin 512 → EReal) (b : EReal) : ℝ :=
  (Idealize.ShloMosaic.Ideal.logistic (∑ k, (x k : EReal) * W k + b)).toReal

/-- The write address's logits. -/
def logits (x : Fin 512 → ℝ) (W : Fin 512 → Fin 256 → ℝ) (b : Fin 256 → ℝ) (s : Fin 256) : ℝ := ∑ k, x k * W k s + b s

/-- Slot `j` comes before slot `i` in the order of the greatest weights: a greater weight, or an equal one at a lower index. -/
def Beats {n : ℕ} (w : Fin n → ℝ) (j i : Fin n) : Prop := w i < w j ∨ (w j = w i ∧ j < i)

/-- How many slots come before slot `i`. -/
def rank {n : ℕ} (w : Fin n → ℝ) (i : Fin n) : ℕ := by
  classical exact (univ.filter fun j => Beats w j i).card

/-- The weights with all but the three greatest set to zero. -/
def sparse {n : ℕ} (w : Fin n → ℝ) (i : Fin n) : ℝ := if rank w i < 3 then w i else 0

/-- The update weights: the gate times the three greatest weights over their sum. -/
def upd (g : ℝ) (w : Fin 256 → ℝ) (s : Fin 256) : ℝ := g * (sparse w s / (∑ j, sparse w j + ε6))

/-- The memory blended with the state by the update weights. -/
def next (u : Fin 256 → ℝ) (m : Fin 256 → Fin 256 → ℝ) (q : Fin 256 → ℝ) (s d : Fin 256) : ℝ := (1 - u s) * m s d + u s * q d

/-- The mean of a slot's 256 entries. -/
def mean (x : Fin 256 → ℝ) : ℝ := (∑ d, x d) / 256

/-- Their variance. -/
def var (x : Fin 256 → ℝ) : ℝ := (∑ d, (x d - mean x) * (x d - mean x)) / 256

/-- A slot normalised: its distance from the mean over the guarded standard deviation. -/
def norm (x : Fin 256 → ℝ) (d : Fin 256) : ℝ := (x d - mean x) / Real.sqrt (var x + ε6)

/-- One row's share of the entropy, before the sign and the batch mean. -/
def ent (w : Fin 256 → ℝ) : ℝ := ∑ s, w s * Real.log (w s + ε10)

end Cert.Row

end
-- ==== Proof.Lift.lean ====
/-
  Facts about extended reals that happen to be real: sums and maxima of real families, the constants the programs
  spell by their bits, and the softmax and the normalisation as the two programs write them, equal to the functions
  of `Spec`.
-/
module

public import proofs.«01_k».proof.Proof.Spec
public import Idealize.ShloMosaic.Lib.Pointwise

@[expose] public section

noncomputable section

namespace Cert.Row

open Finset Idealize.ShloMosaic

/-- A sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem bits_bot : Ideal.ofBits FTy.f32 4286578688#32 = ⊥ := by
  simp [Ideal.ofBits, Ideal.ieee]

theorem bits_256th : Ideal.ofBits FTy.f32 998244352#32 = ((1 / 256 : ℝ) : EReal) := by
  simp [Ideal.ofBits, Ideal.ieee, -EReal.coe_mul]; norm_num

theorem bits_1024th : Ideal.ofBits FTy.f32 0x3A800000#32 = ((1 / 1024 : ℝ) : EReal) := by
  simp [Ideal.ofBits, Ideal.ieee, -EReal.coe_mul]; norm_num

theorem bits_256 : Ideal.ofBits FTy.f32 0x43800000#32 = ((256 : ℝ) : EReal) := by
  simp [Ideal.ofBits, Ideal.ieee, -EReal.coe_mul]; norm_num

theorem bits_1024 : Ideal.ofBits FTy.f32 0x44800000#32 = ((1024 : ℝ) : EReal) := by
  simp [Ideal.ofBits, Ideal.ieee, -EReal.coe_mul]; norm_num

theorem bits_ε6 : Ideal.ofBits FTy.f32 897988541#32 = (ε6 : EReal) := by
  unfold ε6
  simp [Ideal.ofBits, Ideal.ieee, -EReal.coe_mul]

theorem bits_ε10 : Ideal.ofBits FTy.f32 786163455#32 = (ε10 : EReal) := by
  unfold ε10
  simp [Ideal.ofBits, Ideal.ieee, -EReal.coe_mul]

theorem ε6_pos : 0 < ε6 := by
  unfold ε6
  simp [Ideal.ofBits, Ideal.ieee, -EReal.coe_mul]; try positivity

theorem ε10_pos : 0 < ε10 := by
  unfold ε10
  simp [Ideal.ofBits, Ideal.ieee, -EReal.coe_mul]; try positivity

/-- The greatest of finitely many reals, at least one, is real. -/
theorem fold_max_coe {ι : Type*} (s : Finset ι) (hs : s.Nonempty) (f : ι → ℝ) :
    ∃ M : ℝ, s.fold max (⊥ : EReal) (fun i => (f i : EReal)) = (M : EReal) := by
  classical
  induction s using Finset.induction_on with
  | empty => exact absurd hs (by simp)
  | insert a s ha ih =>
    rw [fold_insert ha]
    rcases s.eq_empty_or_nonempty with rfl | h
    · exact ⟨f a, by simp⟩
    · obtain ⟨M, hM⟩ := ih h
      exact ⟨max (f a) M, by rw [hM]; exact (EReal.coe_strictMono.monotone.map_max).symm⟩

/-- Division of reals by a real that is not zero. -/
theorem div_real (a b : ℝ) (hb : b ≠ 0) : Ideal.div (a : EReal) (b : EReal) = ((a / b : ℝ) : EReal) := by
  rw [Ideal.div_coe hb, ← EReal.coe_mul, mul_one_div]

theorem rsqrt_real (a : ℝ) (ha : 0 < a) : Ideal.rsqrt (a : EReal) = (((Real.sqrt a)⁻¹ : ℝ) : EReal) := by
  rw [Ideal.rsqrt_coe, if_neg ha.not_gt, if_neg ha.ne']

theorem sqrt_real (a : ℝ) (ha : 0 ≤ a) : Ideal.sqrt (a : EReal) = (Real.sqrt a : EReal) := by
  rw [Ideal.sqrt_coe, if_neg ha.not_gt]

theorem log_real (a : ℝ) (ha : 0 < a) : Ideal.log (a : EReal) = (Real.log a : EReal) := by
  rw [Ideal.log_coe, if_neg ha.not_ge]

/-- A softmax does not change when every entry is shifted by one amount. -/
theorem softmax_shift {n : ℕ} (x : Fin n → ℝ) (M : ℝ) (i : Fin n) :
    Real.exp (x i - M) / ∑ j, Real.exp (x j - M) = softmax x i := by
  unfold softmax
  simp only [Real.exp_sub]
  rw [← sum_div]
  exact div_div_div_cancel_right₀ (Real.exp_ne_zero M) _ _

theorem sum_exp_pos {n : ℕ} (x : Fin n → ℝ) (i : Fin n) : 0 < ∑ j, Real.exp (x j) :=
  sum_pos (fun j _ => Real.exp_pos _) ⟨i, mem_univ i⟩

theorem softmax_pos {n : ℕ} (x : Fin n → ℝ) (i : Fin n) : 0 < softmax x i :=
  div_pos (Real.exp_pos _) (sum_exp_pos x i)

/-- The softmax as an exponential times the reciprocal of the sum, shifted by the row's greatest entry. -/
theorem softmax_mul {n : ℕ} (x : Fin n → ℝ) (i : Fin n) :
    Ideal.exp ((x i : EReal) - univ.fold max (⊥ : EReal) fun k => (x k : EReal))
      * Ideal.div 1 (∑ j, Ideal.exp ((x j : EReal) - univ.fold max (⊥ : EReal) fun k => (x k : EReal)))
      = (softmax x i : EReal) := by
  obtain ⟨M, hM⟩ := fold_max_coe univ ⟨i, mem_univ i⟩ x
  rw [hM]
  have hp := sum_exp_pos (fun j => x j - M) i
  simp only [← EReal.coe_sub, Ideal.exp_coe, ← coe_sum]
  rw [← EReal.coe_one, div_real _ _ hp.ne', ← EReal.coe_mul, ← softmax_shift x M i]
  congr 1
  ring

/-- The softmax as a quotient, shifted by the row's greatest entry. -/
theorem softmax_div {n : ℕ} (x : Fin n → ℝ) (i : Fin n) :
    Ideal.div (Ideal.exp ((x i : EReal) - univ.fold max (⊥ : EReal) fun k => (x k : EReal)))
      (∑ j, Ideal.exp ((x j : EReal) - univ.fold max (⊥ : EReal) fun k => (x k : EReal)))
      = (softmax x i : EReal) := by
  obtain ⟨M, hM⟩ := fold_max_coe univ ⟨i, mem_univ i⟩ x
  rw [hM]
  have hp := sum_exp_pos (fun j => x j - M) i
  simp only [← EReal.coe_sub, Ideal.exp_coe, ← coe_sum]
  rw [div_real _ _ hp.ne', ← softmax_shift x M i]

/-- The variance is the mean of the squares less the square of the mean. -/
theorem var_eq (x : Fin 256 → ℝ) : (∑ d, x d * x d) * (1 / 256) - mean x * mean x = var x := by
  unfold var
  have h : ∑ d, (x d - mean x) * (x d - mean x) = ∑ d, x d * x d - 256 * (mean x * mean x) := by
    have hs : ∑ d, x d = 256 * mean x := by unfold mean; ring
    calc ∑ d, (x d - mean x) * (x d - mean x)
        = ∑ d, (x d * x d - 2 * mean x * x d + mean x * mean x) := sum_congr rfl fun d _ => by ring
      _ = ∑ d, x d * x d - 2 * mean x * ∑ d, x d + 256 * (mean x * mean x) := by
          rw [sum_add_distrib, sum_sub_distrib, ← mul_sum]; simp
      _ = _ := by rw [hs]; ring
  rw [h]; ring

theorem var_nonneg (x : Fin 256 → ℝ) : 0 ≤ var x :=
  div_nonneg (sum_nonneg fun d _ => mul_self_nonneg _) (by norm_num)

theorem var_pos (x : Fin 256 → ℝ) : 0 < var x + ε6 := add_pos_of_nonneg_of_pos (var_nonneg x) ε6_pos

/-- The normalisation as the distance from the mean times a reciprocal square root, the variance from the squares. -/
theorem norm_mul (x : Fin 256 → ℝ) (d : Fin 256) :
    ((x d : EReal) - (∑ k, (x k : EReal)) * ((1 / 256 : ℝ) : EReal))
      * Ideal.rsqrt ((∑ k, (x k : EReal) * (x k : EReal)) * ((1 / 256 : ℝ) : EReal)
          - (∑ k, (x k : EReal)) * ((1 / 256 : ℝ) : EReal) * ((∑ k, (x k : EReal)) * ((1 / 256 : ℝ) : EReal)) + (ε6 : EReal))
      = (norm x d : EReal) := by
  have hm : (∑ k, x k) * (1 / 256) = mean x := by unfold mean; ring
  simp only [← EReal.coe_mul, ← coe_sum, ← EReal.coe_sub, ← EReal.coe_add, hm, var_eq]
  rw [rsqrt_real _ (var_pos x), ← EReal.coe_mul]
  unfold norm
  congr 1

/-- The normalisation as a quotient by a square root, the variance from the distances. -/
theorem norm_div (x : Fin 256 → ℝ) (d : Fin 256) :
    Ideal.div ((x d : EReal) - (mean x : EReal)) (Ideal.sqrt ((var x : EReal) + (ε6 : EReal))) = (norm x d : EReal) := by
  rw [← EReal.coe_sub, ← EReal.coe_add, sqrt_real _ (var_pos x).le,
    div_real _ _ (Real.sqrt_pos.mpr (var_pos x)).ne']
  rfl

/-- A sum over the 512 entries of the joined state is the two parts' sums. -/
theorem sum_cat (qr qi : Fin 256 → ℝ) (W : Fin 512 → ℝ) :
    ∑ k, cat qr qi k * W k = ∑ x : Fin 256, qr x * W ⟨x.val, by omega⟩ + ∑ x : Fin 256, qi x * W ⟨256 + x.val, by omega⟩ := by
  rw [show (∑ k : Fin 512, cat qr qi k * W k) = ∑ k : Fin (256 + 256), cat qr qi k * W k from rfl, Fin.sum_univ_add]
  congr 1

/-- The same with weights that may be infinite. -/
theorem sum_cat_ext (qr qi : Fin 256 → ℝ) (W : Fin 512 → EReal) :
    ∑ k, (cat qr qi k : EReal) * W k
      = ∑ x : Fin 256, (qr x : EReal) * W ⟨x.val, by omega⟩ + ∑ x : Fin 256, (qi x : EReal) * W ⟨256 + x.val, by omega⟩ := by
  rw [show (∑ k : Fin 512, (cat qr qi k : EReal) * W k) = ∑ k : Fin (256 + 256), (cat qr qi k : EReal) * W k from rfl, Fin.sum_univ_add]
  congr 1

/-- The logistic function is real everywhere, at the infinities too. -/
theorem logistic_real (x : EReal) : Ideal.logistic x = ((Ideal.logistic x).toReal : EReal) := by
  induction x with
  | bot => simp
  | top => simp
  | coe r => rw [Ideal.logistic_coe, EReal.toReal_coe]

end Cert.Row

end
-- ==== Proof.Rank.lean ====
/-
  The order of the greatest weights: every rank below the row's length is one slot's, what one round of "the first
  greatest entry" picks, and where a stable sort by "greater" puts each slot.
-/
module

public import proofs.«01_k».proof.Proof.Lift
public import Idealize.ShloMosaic.Lib.SortFacts

@[expose] public section

noncomputable section

namespace Cert.Row

open Finset Idealize.ShloMosaic

section Order
variable {n : ℕ} (w : Fin n → ℝ)

theorem beats_irrefl (i : Fin n) : ¬ Beats w i i := fun h => h.elim (lt_irrefl _) fun h => lt_irrefl _ h.2

theorem beats_trans {i j k : Fin n} (h : Beats w i j) (h' : Beats w j k) : Beats w i k := by
  rcases h with h | ⟨h, hi⟩ <;> rcases h' with h' | ⟨h', hj⟩
  · exact Or.inl (h'.trans h)
  · exact Or.inl (h' ▸ h)
  · exact Or.inl (h.symm ▸ h')
  · exact Or.inr ⟨h.trans h', hi.trans hj⟩

theorem beats_total {i j : Fin n} (h : i ≠ j) : Beats w i j ∨ Beats w j i := by
  rcases lt_trichotomy (w i) (w j) with h' | h' | h'
  · exact Or.inr (Or.inl h')
  · rcases lt_or_gt_of_ne h with hij | hij
    · exact Or.inl (Or.inr ⟨h', hij⟩)
    · exact Or.inr (Or.inr ⟨h'.symm, hij⟩)
  · exact Or.inl (Or.inl h')

/-- A slot that comes before another has the lower rank. -/
theorem rank_lt_of_beats {i j : Fin n} (h : Beats w i j) : rank w i < rank w j := by
  classical
  unfold rank
  refine card_lt_card ⟨fun k hk => ?_, fun hs => ?_⟩
  · exact mem_filter.mpr ⟨mem_univ _, beats_trans w (mem_filter.mp hk).2 h⟩
  · exact beats_irrefl w i (mem_filter.mp (hs (mem_filter.mpr ⟨mem_univ i, h⟩))).2

theorem rank_inj {i j : Fin n} (h : rank w i = rank w j) : i = j := by
  by_contra hne
  rcases beats_total w hne with hb | hb
  · exact (rank_lt_of_beats w hb).ne h
  · exact (rank_lt_of_beats w hb).ne h.symm

theorem beats_of_rank_lt {i j : Fin n} (h : rank w i < rank w j) : Beats w i j := by
  have hne : i ≠ j := fun e => h.ne (e ▸ rfl)
  exact (beats_total w hne).resolve_right fun hb => (rank_lt_of_beats w hb).not_gt h

theorem rank_lt (i : Fin n) : rank w i < n := by
  classical
  unfold rank
  exact lt_of_lt_of_eq (card_lt_card ⟨filter_subset _ _, fun hs => beats_irrefl w i (mem_filter.mp (hs (mem_univ i))).2⟩)
    (by simp)

/-- Every rank below the length is some slot's. -/
theorem exists_rank (k : ℕ) (hk : k < n) : ∃ i, rank w i = k := by
  have hinj : Function.Injective fun i : Fin n => (⟨rank w i, rank_lt w i⟩ : Fin n) := fun i j h =>
    rank_inj w (congrArg Fin.val h)
  obtain ⟨i, hi⟩ := Finite.injective_iff_surjective.mp hinj ⟨k, hk⟩
  exact ⟨i, congrArg Fin.val hi⟩

end Order

/-! ## One round of "the first greatest entry" -/

theorem cmpi_eq_iff (a b : BitVec 32) : IntOp.cmpi CmpIPredicate.eq a b = 1#1 ↔ a = b := by
  change BitVec.ofBool (a == b) = 1#1 ↔ a = b
  by_cases h : a = b
  · simp [h]
  · rw [show (a == b) = false from beq_eq_false_iff_ne.mpr h]
    exact ⟨fun e => absurd e (by decide), fun e => absurd e h⟩

/-- Is `s` the first place at which the row takes its greatest value? -/
def firstMax (g : Fin 256 → EReal) (s : Fin 256) : BitVec 1 :=
  IntOp.cmpi CmpIPredicate.eq (BitVec.ofNat 32 s.val)
    (univ.fold IntOp.minsi 2147483647#32 fun x : Fin 256 =>
      if g x = univ.fold max (⊥ : EReal) g then BitVec.ofNat 32 x.val else 256#32)

theorem fold_minsi_toInt {ι : Type*} (s : Finset ι) (b : BitVec 32) (f : ι → BitVec 32) :
    (s.fold IntOp.minsi b f).toInt = s.fold min b.toInt fun x => (f x).toInt := by
  classical
  induction s using Finset.induction_on with
  | empty => simp
  | insert a s ha ih =>
    rw [fold_insert ha, fold_insert ha, ← ih]
    unfold IntOp.minsi
    simp only [BitVec.slt]
    split <;> simp_all <;> omega

theorem toInt_small (k : ℕ) (hk : k < 512) : (BitVec.ofNat 32 k).toInt = (k : ℤ) := by
  rw [BitVec.toInt_ofNat']; simp only [Int.bmod]; omega

theorem eq_fold_max_iff (g : Fin 256 → EReal) (x : Fin 256) : g x = univ.fold max (⊥ : EReal) g ↔ ∀ j, g j ≤ g x := by
  have hle : g x ≤ univ.fold max (⊥ : EReal) g := (le_fold_max _).mpr (Or.inr ⟨x, mem_univ _, le_rfl⟩)
  constructor
  · intro h j
    rw [h]
    exact (le_fold_max _).mpr (Or.inr ⟨j, mem_univ _, le_rfl⟩)
  · intro h
    exact le_antisymm hle ((fold_max_le _).mpr ⟨bot_le, fun j _ => h j⟩)

/-- The round picks the slot whose value is the greatest and strictly above every earlier one. -/
theorem firstMax_iff (g : Fin 256 → EReal) (s : Fin 256) :
    firstMax g s = 1#1 ↔ (∀ j, g j ≤ g s) ∧ ∀ j, j < s → g j < g s := by
  set m := univ.fold IntOp.minsi 2147483647#32 fun x : Fin 256 =>
      if g x = univ.fold max (⊥ : EReal) g then BitVec.ofNat 32 x.val else 256#32 with hm
  have hcmp : firstMax g s = 1#1 ↔ BitVec.ofNat 32 s.val = m := by
    unfold firstMax
    rw [← hm]
    exact cmpi_eq_iff _ _
  have hval : ∀ x : Fin 256, (if g x = univ.fold max (⊥ : EReal) g then BitVec.ofNat 32 x.val else 256#32).toInt
      = if ∀ j, g j ≤ g x then (x.val : ℤ) else 256 := by
    intro x
    by_cases h : ∀ j, g j ≤ g x
    · rw [if_pos ((eq_fold_max_iff g x).mpr h), if_pos h, toInt_small _ (by omega)]
    · rw [if_neg fun e => h ((eq_fold_max_iff g x).mp e), if_neg h]; rfl
  have hmi : m.toInt = univ.fold min (2147483647 : ℤ) fun x : Fin 256 => if ∀ j, g j ≤ g x then (x.val : ℤ) else 256 := by
    rw [hm, fold_minsi_toInt]
    simp only [hval]
    rfl
  rw [hcmp, ← BitVec.toInt_inj, toInt_small _ (by omega), hmi]
  constructor
  · intro h
    have h1 := (fold_min_le (s := univ) (b := (2147483647 : ℤ)) (c := (s.val : ℤ))).mp h.ge
    have h2 := (le_fold_min (s := univ) (b := (2147483647 : ℤ)) (s.val : ℤ)).mp h.le
    have h3 : ∀ x : Fin 256, (∀ j, g j ≤ g x) → s ≤ x := fun x hx => by
      have := h2.2 x (mem_univ x)
      rw [if_pos hx] at this
      exact_mod_cast this
    have h4 : ∀ j, g j ≤ g s := by
      rcases h1 with h1 | ⟨x, -, hx⟩
      · exfalso; omega
      · by_cases hP : ∀ j, g j ≤ g x
        · rw [if_pos hP] at hx
          have := h3 x hP
          have : x = s := le_antisymm (by exact_mod_cast hx) this
          exact this ▸ hP
        · rw [if_neg hP] at hx; exfalso; omega
    refine ⟨h4, fun j hj => lt_of_le_of_ne (h4 j) fun e => ?_⟩
    exact (h3 j fun k => e ▸ h4 k).not_gt hj
  · rintro ⟨h1, h2⟩
    refine le_antisymm ((le_fold_min _).mpr ⟨by omega, fun x _ => ?_⟩) ((fold_min_le _).mpr (Or.inr ⟨s, mem_univ _, ?_⟩))
    · split
      · rename_i hx
        by_contra hlt
        have : x < s := by
          have : (x.val : ℤ) < s.val := not_le.mp hlt
          exact_mod_cast this
        exact (h2 x this).not_ge (hx s)
      · omega
    · rw [if_pos h1]

/-- With the slots of rank below `k` at minus infinity, a round picks the slot of rank `k`. -/
theorem firstMax_round (w : Fin 256 → ℝ) (k : ℕ) (hk : k < 256) (g : Fin 256 → EReal)
    (hg : ∀ j, g j = if rank w j < k then ⊥ else (w j : EReal)) (s : Fin 256) :
    firstMax g s = if rank w s = k then 1#1 else 0#1 := by
  obtain ⟨e, he⟩ := exists_rank w k hk
  have hge : g e = (w e : EReal) := by rw [hg, if_neg (by omega)]
  have key : firstMax g s = 1#1 ↔ rank w s = k := by
    rw [firstMax_iff]
    constructor
    · rintro ⟨h1, h2⟩
      by_contra hne
      rcases lt_or_gt_of_ne hne with hlt | hgt
      · have := h1 e
        rw [hge, hg s, if_pos hlt] at this
        exact absurd (le_bot_iff.mp this) (EReal.coe_ne_bot _)
      · have hb : Beats w e s := beats_of_rank_lt w (by omega)
        have hs : g s = (w s : EReal) := by rw [hg, if_neg (by omega)]
        rcases hb with hb | ⟨hb, hlt⟩
        · have := h1 e
          rw [hge, hs] at this
          exact absurd (EReal.coe_le_coe_iff.mp this) (not_le.mpr hb)
        · have := h2 e hlt
          rw [hge, hs, hb] at this
          exact lt_irrefl _ this
    · intro h
      have hs : g s = (w s : EReal) := by rw [hg, if_neg (by omega)]
      have hno : ∀ j, ¬ rank w j < k → ¬ Beats w j s := fun j hj hb => hj (h ▸ rank_lt_of_beats w hb)
      refine ⟨fun j => ?_, fun j hj => ?_⟩
      · by_cases hjk : rank w j < k
        · rw [hg j, if_pos hjk]; exact bot_le
        · rw [hg j, if_neg hjk, hs]
          exact EReal.coe_le_coe_iff.mpr (not_lt.mp fun hlt => hno j hjk (Or.inl hlt))
      · by_cases hjk : rank w j < k
        · rw [hg j, if_pos hjk, hs]; exact EReal.bot_lt_coe _
        · rw [hg j, if_neg hjk, hs]
          refine EReal.coe_lt_coe_iff.mpr (lt_of_le_of_ne (not_lt.mp fun hlt => hno j hjk (Or.inl hlt)) fun e => ?_)
          exact hno j hjk (Or.inr ⟨e, hj⟩)
  by_cases h : rank w s = k
  · rw [if_pos h, key.mpr h]
  · rw [if_neg h]
    have h1 : firstMax g s ≠ 1#1 := fun e => h (key.mp e)
    have : ∀ v : BitVec 1, v ≠ 1#1 → v = 0#1 := by decide
    exact this _ h1

/-! ## The stable sort by "greater" -/

theorem stableSort_tie {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- A stable sort by "greater" puts at position `r` the slot of rank `r`. -/
theorem rank_sortedFrom {n : ℕ} (w : Fin n → ℝ) (R : Fin n → Fin n → Bool) (hR : ∀ a b, R a b = true ↔ w b < w a) (r : Fin n) :
    rank w (sortedFrom R r) = r.val := by
  classical
  have hs : sortedFrom R = sortedFrom fun a b => decide (Beats w a b) := by
    have hp : sortPositions n R = sortPositions n fun a b => decide (Beats w a b) :=
      stableSort_tie _ _ (fun a b hab => by
        rw [Bool.eq_iff_iff, hR, decide_eq_true_iff]
        exact ⟨Or.inl, fun h => h.resolve_right fun h' => hab.not_gt h'.2⟩) _ (List.pairwise_lt_finRange n)
    funext k
    unfold sortedFrom
    rw [List.get_of_eq hp]
    rfl
  have hmono : StrictMono fun k : Fin n => (⟨rank w (sortedFrom R k), rank_lt w _⟩ : Fin n) := by
    intro i j hij
    have hno := sortedFrom_noInversion (fun a b => decide (Beats w a b)) (fun a b => decide (Beats w a b))
      (fun a b h => by
        have := of_decide_eq_true h
        exact decide_eq_false fun h' => beats_irrefl w _ (beats_trans w this h'))
      (fun a b h => h)
      (fun a b c h h' => by
        have h1 := of_decide_eq_false h
        have h2 := of_decide_eq_false h'
        refine decide_eq_false fun h3 => ?_
        by_cases hab : a = b
        · exact h2 (hab ▸ h3)
        · exact h2 (beats_trans w ((beats_total w hab).resolve_left h1) h3)) i j hij
    rw [← hs] at hno
    have hne : sortedFrom R i ≠ sortedFrom R j := fun e => hij.ne (sortedFrom_injective R e)
    exact rank_lt_of_beats w ((beats_total w hne).resolve_right (of_decide_eq_false hno))
  have h1 := hmono.le_apply (x := r)
  have h2 := hmono.apply_le (x := r)
  exact congrArg Fin.val (le_antisymm h2 h1)

end Cert.Row

end
-- ==== Proof.StreamBlock.lean ====
/-
  What one block of the second kernel computes from real blocks: each of its results, at an index, is the row function
  of `Spec` at that row.
-/
module

public import proofs.«01_k».proof.Proof.Gen.KernelIdeal.Frame
public import proofs.«01_k».proof.Proof.Rank
public import Idealize.ShloMosaic.Lib.Pointwise

@[expose] public section

set_option maxRecDepth 16384

noncomputable section

namespace Cert.Stream

open Finset Idealize.ShloMosaic Cert.KernelIdeal Cert.KernelIdeal.Gen Cert.Row
open Idealize.ShloMosaic.Pointwise

theorem select_eq (a b : BitVec 32) (x y : EReal) :
    Scalar.select (IntOp.cmpi CmpIPredicate.eq a b) x y = if a = b then x else y := by
  unfold Scalar.select
  exact if_congr (cmpi_eq_iff a b) rfl rfl

theorem ofNat_inj {a b : ℕ} (ha : a < 512) (hb : b < 512) : BitVec.ofNat 32 a = BitVec.ofNat 32 b ↔ a = b := by
  constructor
  · intro h
    have := congrArg BitVec.toInt h
    rw [toInt_small a ha, toInt_small b hb] at this
    exact_mod_cast this
  · rintro rfl; rfl

/-- The sum along a diagonal mask is the one term it keeps. -/
theorem sum_diag (b : Fin 16) (f : Fin 16 → EReal) :
    ∑ x : Fin 16, Scalar.select (IntOp.cmpi CmpIPredicate.eq (BitVec.ofNat 32 b.val) (BitVec.ofNat 32 x.val)) (f x) 0 = f b := by
  have hiff : ∀ x : Fin 16, (BitVec.ofNat 32 b.val = BitVec.ofNat 32 x.val) ↔ b = x := fun x =>
    (ofNat_inj (by omega) (by omega)).trans Fin.val_inj
  simp only [select_eq, hiff]
  rw [sum_ite_eq]; simp

/-- The flat position's block of 256, as the program finds it by a signed division corrected towards minus infinity. -/
theorem block_of_flat : ∀ x : Fin 4096,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 x.val) 256#32) 0#32))
      (IntOp.subi (IntOp.divsi ArithUnit.vector (BitVec.ofNat 32 x.val) 256#32) 1#32)
      (IntOp.divsi ArithUnit.vector (BitVec.ofNat 32 x.val) 256#32) = BitVec.ofNat 32 (x.val / 256) := by
  decide +kernel

/-- The sum over the flat positions of one block. -/
theorem sum_block (b : Fin 16) (f : Fin 4096 → EReal) :
    ∑ x : Fin 4096, (if BitVec.ofNat 32 b.val = BitVec.ofNat 32 (x.val / 256) then f x else 0)
      = ∑ s : Fin 256, f ⟨b.val * 256 + s.val, by omega⟩ := by
  have hiff : ∀ x : Fin 4096, (BitVec.ofNat 32 b.val = BitVec.ofNat 32 (x.val / 256)) ↔ b.val = x.val / 256 := fun x =>
    ofNat_inj (by omega) (by omega)
  simp only [hiff]
  rw [← (finProdFinEquiv (m := 16) (n := 256)).sum_comp (fun x : Fin (16 * 256) => if b.val = x.val / 256 then f x else 0),
    Fintype.sum_prod_type]
  have hterm : ∀ (i : Fin 16) (s : Fin 256),
      (if b.val = (finProdFinEquiv (i, s)).val / 256 then f (finProdFinEquiv (i, s)) else 0)
        = if b = i then f ⟨i.val * 256 + s.val, by omega⟩ else 0 := by
    intro i s
    have hv : (finProdFinEquiv (i, s)).val = s.val + 256 * i.val := rfl
    have hd : (s.val + 256 * i.val) / 256 = i.val := by omega
    rw [hv, hd]
    by_cases h : b = i
    · rw [if_pos h, if_pos (by rw [h])]
      congr 1
      exact Fin.ext (show s.val + 256 * i.val = i.val * 256 + s.val by omega)
    · rw [if_neg h, if_neg fun e => h (Fin.ext e)]
  simp only [hterm]
  rw [sum_eq_single b (fun i _ hi => by simp [Ne.symm hi]) (by simp)]
  simp

section Block
variable (a0 a1 a4 : S16x256.Idx → ℝ) (a2 a3 : S16x256x256.Idx → ℝ)

/-- The read weights of a block's row. -/
theorem weights_eq (b : Fin 16) (s : Fin 256) :
    k1_pay6 (F := Ideal) (fun i => (a0 i : EReal)) (fun i => (a1 i : EReal)) (fun i => (a2 i : EReal)) (fun i => (a3 i : EReal)) (ix2 b s)
      = (softmax (sim (fun d => a0 (ix2 b d)) (fun d => a1 (ix2 b d)) (fun s d => a2 (ix3 b s d)) fun s d => a3 (ix3 b s d)) s : EReal) := by
  have hsim : ∀ s : Fin 256, (∑ d : Fin 256, (a2 (ix3 b s d) : EReal) * (a0 (ix2 b d) : EReal)
      + ∑ d : Fin 256, (a3 (ix3 b s d) : EReal) * (a1 (ix2 b d) : EReal))
      = (sim (fun d => a0 (ix2 b d)) (fun d => a1 (ix2 b d)) (fun s d => a2 (ix3 b s d)) (fun s d => a3 (ix3 b s d)) s : EReal) := by
    intro s
    simp only [← EReal.coe_mul, ← coe_sum, ← EReal.coe_add]
    unfold sim
    rw [sum_add_distrib]
  pointwise [k1_pay6, k1_pay4, k1_pay5]
  simp only [sum_diag, bits_bot, hsim]
  exact softmax_mul _ _

/-- A row of a block read under weights. -/
theorem read_eq (w : S16x256.Idx → ℝ) (b : Fin 16) (d : Fin 256) :
    k1_pay14 (F := Ideal) (k1_pay4 fun i => (a2 i : EReal)) (fun i => (w i : EReal)) (ix2 b d)
      = (read (fun s => w (ix2 b s)) (fun s d => a2 (ix3 b s d)) d : EReal) := by
  pointwise [k1_pay14, k1_pay13, k1_pay4]
  simp only [block_of_flat, select_eq]
  rw [sum_block]
  unfold Row.read
  simp only [coe_sum, EReal.coe_mul]
  refine sum_congr rfl fun s _ => ?_
  have h1 : (⟨(b.val * 256 + s.val) / 256, by omega⟩ : Fin 16) = b := Fin.ext (show (b.val * 256 + s.val) / 256 = b.val by omega)
  have h2 : (⟨(b.val * 256 + s.val) % 256, by omega⟩ : Fin 256) = s := Fin.ext (show (b.val * 256 + s.val) % 256 = s.val by omega)
  simp only [h1, h2]

/-- The imaginary part is read the same way. -/
theorem read_eq' (v6 : FVec Ideal S4096x256 .f32) (v28 : FVec Ideal S16x256 .f32) : k1_pay15 v6 v28 = k1_pay14 v6 v28 := rfl

/-- The blended memory, real part. -/
theorem next_eq (b : Fin 16) (s d : Fin 256) :
    k1_pay11 (F := Ideal) (k1_pay9 (fun i => (a2 i : EReal)) fun i => (a4 i : EReal)) (k1_pay10 (fun i => (a0 i : EReal)) fun i => (a4 i : EReal)) (ix3 b s d)
      = (next (fun s => a4 (ix2 b s)) (fun s d => a2 (ix3 b s d)) (fun d => a0 (ix2 b d)) s d : EReal) := by
  pointwise [k1_pay11, k1_pay9, k1_pay10, k1_pay7, k1_pay8]
  unfold next
  simp only [EReal.coe_add, EReal.coe_mul, EReal.coe_sub, EReal.coe_one]

/-- The blended memory, imaginary part. -/
theorem next_eq' (b : Fin 16) (s d : Fin 256) :
    k1_pay12 (F := Ideal) (fun i => (a2 i : EReal)) (k1_pay3 fun i => (a0 i : EReal)) (k1_pay7 fun i => (a4 i : EReal)) (k1_pay8 fun i => (a4 i : EReal)) (ix3 b s d)
      = (next (fun s => a4 (ix2 b s)) (fun s d => a2 (ix3 b s d)) (fun d => a0 (ix2 b d)) s d : EReal) := by
  pointwise [k1_pay12, k1_pay3, k1_pay7, k1_pay8]
  unfold next
  simp only [EReal.coe_add, EReal.coe_mul, EReal.coe_sub, EReal.coe_one]

/-- The normalised slot of a block. -/
theorem norm_eq (v : FVec Ideal S16x256x256 .f32) (x : Fin 16 → Fin 256 → Fin 256 → ℝ) (hv : ∀ b s d, v (ix3 b s d) = (x b s d : EReal))
    (b : Fin 16) (s d : Fin 256) : k1_pay1 v (ix3 b s d) = (norm (x b s) d : EReal) := by
  pointwise [k1_pay1]
  simp only [hv, bits_256th, bits_ε6]
  exact norm_mul _ _

theorem norm_eq' (v : FVec Ideal S16x256x256 .f32) : k1_pay2 v = k1_pay1 v := rfl

end Block

end Cert.Stream

end
-- ==== Proof.AddrBlock.lean ====
/-
  What one block of the first kernel computes from real blocks: the gate, the write weights, the update weights kept at
  the three greatest, and the block's share of the entropy.
-/
module

public import proofs.«01_k».proof.Proof.StreamBlock

@[expose] public section

set_option maxRecDepth 16384

noncomputable section

namespace Cert.Addr

open Finset Idealize.ShloMosaic Cert.KernelIdeal Cert.KernelIdeal.Gen Cert.Row
open Idealize.ShloMosaic.Pointwise

section Block
variable (a0 a1 : S128x256.Idx → ℝ)

/-- The gate of a block's row. -/
theorem gate_eq (W : FVec Ideal S512x1 .f32) (β : FVec Ideal S1x1 .f32) (b : Fin 128) :
    k0_pay3 (F := Ideal) (fun i => (a0 i : EReal)) (fun i => (a1 i : EReal)) W β (ix2 b (0 : Fin 1))
      = (gate (cat (fun d => a0 (ix2 b d)) fun d => a1 (ix2 b d)) (fun k => W (ix2 k 0)) (β (ix2 0 0)) : EReal) := by
  pointwise [k0_pay3, k0_pay2]
  unfold gate
  rw [sum_cat_ext, ← logistic_real]

/-- The write weights of a block's row. -/
theorem weights_eq (W : S512x256.Idx → ℝ) (β : S1x256.Idx → ℝ) (b : Fin 128) (s : Fin 256) :
    k0_pay4 (F := Ideal) (fun i => (a0 i : EReal)) (fun i => (a1 i : EReal)) (fun i => (W i : EReal)) (fun i => (β i : EReal)) (ix2 b s)
      = (softmax (logits (cat (fun d => a0 (ix2 b d)) fun d => a1 (ix2 b d)) (fun k s => W (ix2 k s)) fun s => β (ix2 0 s)) s : EReal) := by
  have hl : ∀ s : Fin 256, (∑ x : Fin 256, (a0 (ix2 b x) : EReal) * (W (ix2 (⟨x.val, by omega⟩ : Fin 512) s) : EReal)
      + ∑ x : Fin 256, (a1 (ix2 b x) : EReal) * (W (ix2 (⟨256 + x.val, by omega⟩ : Fin 512) s) : EReal) + (β (ix2 0 s) : EReal))
      = (logits (cat (fun d => a0 (ix2 b d)) fun d => a1 (ix2 b d)) (fun k s => W (ix2 k s)) (fun s => β (ix2 0 s)) s : EReal) := by
    intro s
    simp only [← EReal.coe_mul, ← coe_sum, ← EReal.coe_add]
    unfold logits
    rw [sum_cat _ _ fun k => W (ix2 k s)]
  pointwise [k0_pay4, k0_pay2]
  simp only [bits_bot, hl]
  exact softmax_mul _ _

end Block

/-- A block of reals among the extended reals. -/
abbrev up (w : S128x256.Idx → ℝ) : FVec Ideal S128x256 .f32 := fun i => (w i : EReal)

section Update
variable (w : S128x256.Idx → ℝ)

theorem mask0 (b : Fin 128) (s : Fin 256) : k0_pay9 (up w) (ix2 b s) = if rank (fun j => w (ix2 b j)) s = 0 then 1#1 else 0#1 := by
  rw [← firstMax_round (fun j => w (ix2 b j)) 0 (by omega) (fun j => (w (ix2 b j) : EReal)) (fun j => by simp) s]
  pointwise [k0_pay9, up]
  rw [bits_bot]; rfl

theorem row1 (b : Fin 128) (s : Fin 256) :
    k0_pay10 (up w) (ix2 b s) = if rank (fun j => w (ix2 b j)) s < 1 then ⊥ else (w (ix2 b s) : EReal) := by
  pointwise [k0_pay10]
  rw [mask0, bits_bot]
  unfold Scalar.select
  by_cases h : rank (fun j => w (ix2 b j)) s = 0 <;> simp [h]

theorem mask1 (b : Fin 128) (s : Fin 256) : k0_pay11 (up w) (ix2 b s) = if rank (fun j => w (ix2 b j)) s = 1 then 1#1 else 0#1 := by
  rw [← firstMax_round (fun j => w (ix2 b j)) 1 (by omega) (fun j => k0_pay10 (up w) (ix2 b j)) (fun j => row1 w b j) s]
  pointwise [k0_pay11, up]
  rw [bits_bot]; rfl

theorem row2 (b : Fin 128) (s : Fin 256) :
    k0_pay13 (up w) (ix2 b s) = if rank (fun j => w (ix2 b j)) s < 2 then ⊥ else (w (ix2 b s) : EReal) := by
  pointwise [k0_pay13, up]
  rw [mask1, row1, bits_bot]
  unfold Scalar.select
  by_cases h : rank (fun j => w (ix2 b j)) s = 1
  · simp [h]
  · by_cases h' : rank (fun j => w (ix2 b j)) s = 0
    · simp [h']
    · rw [if_neg (show ¬ rank (fun j => w (ix2 b j)) s < 1 by omega), if_neg (show ¬ rank (fun j => w (ix2 b j)) s < 2 by omega)]
      simp [h]

/-- The first two rounds keep the slots of ranks 0 and 1. -/
theorem kept2 (b : Fin 128) (s : Fin 256) :
    k0_pay12 (up w) (ix2 b s) = if rank (fun j => w (ix2 b j)) s < 2 then (w (ix2 b s) : EReal) else 0 := by
  pointwise [k0_pay12, up]
  rw [mask1, mask0]
  unfold Scalar.select
  by_cases h : rank (fun j => w (ix2 b j)) s = 1
  · simp [h]
  · by_cases h' : rank (fun j => w (ix2 b j)) s = 0
    · simp [h']
    · rw [if_neg (show ¬ rank (fun j => w (ix2 b j)) s < 2 by omega)]
      simp [h, h']

/-- The third round picks the slot of rank 2. -/
theorem mask2 (b : Fin 128) (s : Fin 256) :
    IntOp.cmpi CmpIPredicate.eq (BitVec.ofNat 32 s.val)
      (univ.fold IntOp.minsi 2147483647#32 fun x : Fin 256 =>
        if k0_pay13 (up w) (ix2 b x) = k0_pay14 (up w) (ix2 b (0 : Fin 1)) then BitVec.ofNat 32 x.val else 256#32)
      = if rank (fun j => w (ix2 b j)) s = 2 then 1#1 else 0#1 := by
  rw [← firstMax_round (fun j => w (ix2 b j)) 2 (by omega) (fun j => k0_pay13 (up w) (ix2 b j)) (fun j => row2 w b j) s]
  have h14 : k0_pay14 (up w) (ix2 b (0 : Fin 1)) = univ.fold max (⊥ : EReal) fun j : Fin 256 => k0_pay13 (up w) (ix2 b j) := by
    pointwise [k0_pay14]
    rw [bits_bot]
  rw [h14]; rfl

/-- After three rounds the row holds its three greatest weights and zeros. -/
theorem kept3 (b : Fin 128) (s : Fin 256) :
    Scalar.select
      (IntOp.cmpi CmpIPredicate.eq (BitVec.ofNat 32 s.val)
        (univ.fold IntOp.minsi 2147483647#32 fun x : Fin 256 =>
          if k0_pay13 (up w) (ix2 b x) = k0_pay14 (up w) (ix2 b (0 : Fin 1)) then BitVec.ofNat 32 x.val else 256#32))
      (w (ix2 b s) : EReal) (k0_pay12 (up w) (ix2 b s)) = (sparse (fun j => w (ix2 b j)) s : EReal) := by
  rw [mask2, kept2]
  unfold Scalar.select sparse
  by_cases h : rank (fun j => w (ix2 b j)) s = 2
  · simp [h]
  · by_cases h' : rank (fun j => w (ix2 b j)) s < 2
    · rw [if_pos h', if_pos (show rank (fun j => w (ix2 b j)) s < 3 by omega)]; simp [h]
    · rw [if_neg h', if_neg (show ¬ rank (fun j => w (ix2 b j)) s < 3 by omega)]; simp [h]

/-- The update weights of a block's row. -/
theorem update_eq (hw : ∀ i, 0 ≤ w i) (v : FVec Ideal S128x1 .f32) (g : Fin 128 → ℝ) (hv : ∀ b, v (ix2 b (0 : Fin 1)) = (g b : EReal))
    (b : Fin 128) (s : Fin 256) :
    k0_pay1 v (up w) (iota .tc S128x256 32 [1] iota_S128x256_d1_w32) (k0_pay12 (up w)) (k0_pay13 (up w)) (k0_pay14 (up w)) (ix2 b s)
      = (upd (g b) (fun j => w (ix2 b j)) s : EReal) := by
  pointwise [k0_pay1, up]
  simp only [kept3, hv, bits_ε6, ← coe_sum, ← EReal.coe_add]
  have hp : 0 < ∑ j, sparse (fun j => w (ix2 b j)) j + ε6 := by
    refine add_pos_of_nonneg_of_pos (sum_nonneg fun j _ => ?_) ε6_pos
    unfold sparse
    split
    · exact hw _
    · exact le_rfl
  rw [← EReal.coe_one, div_real _ _ hp.ne', ← EReal.coe_mul, ← EReal.coe_mul]
  unfold upd
  rw [mul_one_div]

/-- The block's share of the entropy. -/
theorem entropy_eq (hw : ∀ i, 0 < w i) (v0 v1 : Vec Ideal S128x256 .f32) (v10 : Vec Ideal S512x256 .f32) (v12 : Vec Ideal S1x256 .f32)
    (hv : k0_pay4 v0 v1 v10 v12 = (up w)) :
    k0_pay5 v0 v1 v10 v12 (ix2 (0 : Fin 1) (0 : Fin 1)) = ((-∑ b : Fin 128, ent fun j => w (ix2 b j) : ℝ) : EReal) := by
  pointwise [k0_pay5]
  simp only [hv, bits_ε10, ← EReal.coe_add]
  have hl : ∀ i, Ideal.log ((w i + ε10 : ℝ) : EReal) = (Real.log (w i + ε10) : EReal) := fun i =>
    log_real _ (add_pos (hw i) ε10_pos)
  simp only [hl, ← EReal.coe_mul, ← coe_sum]
  rw [← EReal.coe_zero, ← EReal.coe_sub, zero_sub]
  rfl

end Update

end Cert.Addr

end
-- ==== Proof.StreamArray.lean ====
/-
  What the second kernel leaves in its four result arrays, from real arrays: at each index the row function of `Spec` at
  that row.
-/
module

public import proofs.«01_k».proof.Proof.StreamBlock
public import Idealize.ShloMosaic.Lib.Pipeline.ValueKit

@[expose] public section

set_option maxRecDepth 16384

noncomputable section

namespace Cert.Row

open Idealize.ShloMosaic Cert.KernelIdeal
open Idealize.ShloMosaic.Pointwise

/-- Row `b` of a batch of rows. -/
def row (A : S1024x256.Idx → ℝ) (b : Fin 1024) (d : Fin 256) : ℝ := A (ix2 b d)

/-- Batch entry `b` of a batch of memories. -/
def slab (A : S1024x256x256.Idx → ℝ) (b : Fin 1024) (s d : Fin 256) : ℝ := A (ix3 b s d)

/-- Batch entry `b`'s read weights. -/
def readWeights (A0 A1 : S1024x256.Idx → ℝ) (A2 A3 : S1024x256x256.Idx → ℝ) (b : Fin 1024) : Fin 256 → ℝ :=
  softmax (sim (row A0 b) (row A1 b) (slab A2 b) (slab A3 b))

/-- What every batch entry reads from the memories `M`. -/
def readAll (A0 A1 : S1024x256.Idx → ℝ) (A2 A3 M : S1024x256x256.Idx → ℝ) (b : Fin 1024) (d : Fin 256) : ℝ :=
  Row.read (readWeights A0 A1 A2 A3 b) (slab M b) d

/-- Every batch entry's next memory, normalised slot by slot. -/
def nextAll (A U : S1024x256.Idx → ℝ) (M : S1024x256x256.Idx → ℝ) (b : Fin 1024) (s d : Fin 256) : ℝ :=
  norm (next (row U b) (slab M b) (row A b) s) d

/-- An array over batch and one axis, from its entries. -/
def arr2 (f : Fin 1024 → Fin 256 → ℝ) : S1024x256.Idx → EReal := fun i => (f (i 0) (i 1) : EReal)

/-- An array over batch and two axes, from its entries. -/
def arr3 (f : Fin 1024 → Fin 256 → Fin 256 → ℝ) : S1024x256x256.Idx → EReal := fun i => (f (i 0) (i 1) (i 2) : EReal)

end Cert.Row

namespace Cert.Stream

open Finset Idealize.ShloMosaic Cert.KernelIdeal Cert.KernelIdeal.Gen Cert.Row
open Idealize.ShloMosaic.TcCoe
open Idealize.ShloMosaic.Pointwise

theorem idx0 : ∀ t, win1_0.index t = ![t.val, 0] := by decide +kernel
theorem idx1 : ∀ t, win1_1.index t = ![t.val, 0] := by decide +kernel
theorem idx2 : ∀ t, win1_2.index t = ![t.val, 0, 0] := by decide +kernel
theorem idx3 : ∀ t, win1_3.index t = ![t.val, 0, 0] := by decide +kernel
theorem idx4 : ∀ t, win1_4.index t = ![t.val, 0] := by decide +kernel
theorem idx5 : ∀ t, win1_5.index t = ![t.val, 0] := by decide +kernel
theorem idx6 : ∀ t, win1_6.index t = ![t.val, 0] := by decide +kernel
theorem idx7 : ∀ t, win1_7.index t = ![t.val, 0, 0] := by decide +kernel
theorem idx8 : ∀ t, win1_8.index t = ![t.val, 0, 0] := by decide +kernel

/-- The batch entry that row `b` of block `t` is. -/
def at_ (t : Fin 64) (b : Fin 16) : Fin 1024 := ⟨16 * t.val + b.val, by omega⟩

/-- Block `t` of a batch of rows. -/
def blkR (A : S1024x256.Idx → ℝ) (t : Fin 64) : S16x256.Idx → ℝ := fun i => A (ix2 (at_ t (i 0)) (i 1 : Fin 256))

/-- Block `t` of a batch of memories. -/
def blkM (A : S1024x256x256.Idx → ℝ) (t : Fin 64) : S16x256x256.Idx → ℝ :=
  fun i => A (ix3 (at_ t (i 0)) (i 1 : Fin 256) (i 2 : Fin 256))

section Blocks
variable (V : (c : Dev nD) → (b : Ref sig .tc) → Buf (Elt Ideal) ((c : Thread nD τ).loc b)) (c : Dev nD)

theorem blk0 (A : S1024x256.Idx → ℝ) (h : V c main_arg0 = fun i => (A i : EReal)) (t : Fin 64) :
    iblk1 V c 0 t = fun i => (blkR A t i : EReal) := by
  have hp : ∀ (b : Fin 16) (d : Fin 256), iblk1 V c 0 t (ix2 b d) = V c main_arg0 (ix2 (at_ t b) d) := fun b d => by
    unfold at_; blk_ext [iblk1, idx0 t]
  funext i
  idx_vars i
  rw [hp, h]; rfl

theorem blk1 (A : S1024x256.Idx → ℝ) (h : V c main_arg1 = fun i => (A i : EReal)) (t : Fin 64) :
    iblk1 V c 1 t = fun i => (blkR A t i : EReal) := by
  have hp : ∀ (b : Fin 16) (d : Fin 256), iblk1 V c 1 t (ix2 b d) = V c main_arg1 (ix2 (at_ t b) d) := fun b d => by
    unfold at_; blk_ext [iblk1, idx1 t]
  funext i
  idx_vars i
  rw [hp, h]; rfl

theorem blk2 (A : S1024x256x256.Idx → ℝ) (h : V c main_arg2 = fun i => (A i : EReal)) (t : Fin 64) :
    iblk1 V c 2 t = fun i => (blkM A t i : EReal) := by
  have hp : ∀ (b : Fin 16) (s d : Fin 256), iblk1 V c 2 t (ix3 b s d) = V c main_arg2 (ix3 (at_ t b) s d) := fun b s d => by
    unfold at_; blk_ext [iblk1, idx2 t]
  funext i
  idx_vars i
  rw [hp, h]; rfl

theorem blk3 (A : S1024x256x256.Idx → ℝ) (h : V c main_arg3 = fun i => (A i : EReal)) (t : Fin 64) :
    iblk1 V c 3 t = fun i => (blkM A t i : EReal) := by
  have hp : ∀ (b : Fin 16) (s d : Fin 256), iblk1 V c 3 t (ix3 b s d) = V c main_arg3 (ix3 (at_ t b) s d) := fun b s d => by
    unfold at_; blk_ext [iblk1, idx3 t]
  funext i
  idx_vars i
  rw [hp, h]; rfl

theorem blk4 (A : S1024x256.Idx → ℝ) (h : V c main_v2_0 = fun i => (A i : EReal)) (t : Fin 64) :
    iblk1 V c 4 t = fun i => (blkR A t i : EReal) := by
  have hp : ∀ (b : Fin 16) (d : Fin 256), iblk1 V c 4 t (ix2 b d) = V c main_v2_0 (ix2 (at_ t b) d) := fun b d => by
    unfold at_; blk_ext [iblk1, idx4 t]
  funext i
  idx_vars i
  rw [hp, h]; rfl

theorem emb5 (t : Fin 64) (b : Fin 16) (d : Fin 256) : ((cfg1.win 5).blk t).view.emb (ix2 b d) = ix2 (at_ t b) d := by
  unfold at_; blk_ext [idx5 t]
theorem emb6 (t : Fin 64) (b : Fin 16) (d : Fin 256) : ((cfg1.win 6).blk t).view.emb (ix2 b d) = ix2 (at_ t b) d := by
  unfold at_; blk_ext [idx6 t]
theorem emb7 (t : Fin 64) (b : Fin 16) (s d : Fin 256) : ((cfg1.win 7).blk t).view.emb (ix3 b s d) = ix3 (at_ t b) s d := by
  unfold at_; blk_ext [idx7 t]
theorem emb8 (t : Fin 64) (b : Fin 16) (s d : Fin 256) : ((cfg1.win 8).blk t).view.emb (ix3 b s d) = ix3 (at_ t b) s d := by
  unfold at_; blk_ext [idx8 t]

variable (A0 A1 U : S1024x256.Idx → ℝ) (A2 A3 : S1024x256x256.Idx → ℝ)
  (h0 : V c main_arg0 = fun i => (A0 i : EReal)) (h1 : V c main_arg1 = fun i => (A1 i : EReal))
  (h2 : V c main_arg2 = fun i => (A2 i : EReal)) (h3 : V c main_arg3 = fun i => (A3 i : EReal))
  (h4 : V c main_v2_0 = fun i => (U i : EReal))
include h0 h1 h2 h3

omit h0 h1 h2 h3 in
theorem ld2 (x : Vec Ideal S16x256 .f32) : View.ld x r1_0 = x := by
  unfold r1_0; exact View.ld_unit_lit _ _ (by decide)

omit h0 h1 h2 h3 in
theorem store2 (w : Vec Ideal S16x256 .f32) : View.canon [(⟨r1_0, w⟩ : View.Piece (Elt Ideal) S16x256 .f32)] = w :=
  View.canon_cons_unit_lit _ w [] (by decide)

omit h0 h1 h2 h3 in
theorem store3 (w : Vec Ideal S16x256x256 .f32) : View.canon [(⟨r1_1, w⟩ : View.Piece (Elt Ideal) S16x256x256 .f32)] = w :=
  View.canon_cons_unit_lit _ w [] (by decide)

omit h0 h1 h2 h3 in
theorem ld3 (x : Vec Ideal S16x256x256 .f32) : View.ld x r1_1 = x := by
  unfold r1_1; exact View.ld_unit_lit _ _ (by decide)

/-- The read weights of block `t`. -/
theorem weights_block (t : Fin 64) (x4 : Vec Ideal S16x256 .f32) :
    k1_pay16 (iblk1 V c 0 t) (iblk1 V c 1 t) (iblk1 V c 2 t) (iblk1 V c 3 t) x4
      = fun i : S16x256.Idx => (readWeights A0 A1 A2 A3 (at_ t (i 0)) (i 1) : EReal) := by
  rw [blk0 V c A0 h0, blk1 V c A1 h1, blk2 V c A2 h2, blk3 V c A3 h3]
  funext i
  idx_vars i
  unfold k1_pay16
  rw [ld2, ld2, ld3, ld3]
  exact weights_eq (blkR A0 t) (blkR A1 t) (blkM A2 t) (blkM A3 t) _ _

/-- Block `t` of the first result array: the real part of what is read. -/
theorem readR_block (t : Fin 64) (y : S16x256.Idx) :
    out1_5 (iblk1 V c 0 t) (iblk1 V c 1 t) (iblk1 V c 2 t) (iblk1 V c 3 t) (iblk1 V c 4 t) y
      = arr2 (readAll A0 A1 A2 A3 A2) ((cfg1.win 5).blk t |>.view.emb y) := by
  idx_vars y
  rw [emb5 t]
  unfold out1_5
  rw [store2, weights_block V c A0 A1 A2 A3 h0 h1 h2 h3 t, ld3, blk2 V c A2 h2]
  exact read_eq (blkM A2 t) (fun i => readWeights A0 A1 A2 A3 (at_ t (i 0)) (i 1)) _ _

/-- The first result array: the real part of what is read. -/
theorem readR_array : (dat1 V c).arrAt 5 cfg1.N = arr2 (readAll A0 A1 A2 A3 A2) := by
  refine (dat1 V c).arrAt_eq_of_covers 5 _ (by decide +kernel) fun t hf y => ?_
  blk_simp
  rw [after1_5]
  exact readR_block V c A0 A1 A2 A3 h0 h1 h2 h3 t y

/-- Block `t` of the second result array: the imaginary part of what is read. -/
theorem readI_block (t : Fin 64) (y : S16x256.Idx) :
    out1_6 (iblk1 V c 0 t) (iblk1 V c 1 t) (iblk1 V c 2 t) (iblk1 V c 3 t) (iblk1 V c 4 t) y
      = arr2 (readAll A0 A1 A2 A3 A3) ((cfg1.win 6).blk t |>.view.emb y) := by
  idx_vars y
  rw [emb6 t]
  unfold out1_6
  rw [store2, weights_block V c A0 A1 A2 A3 h0 h1 h2 h3 t, ld3, blk3 V c A3 h3]
  exact read_eq (blkM A3 t) (fun i => readWeights A0 A1 A2 A3 (at_ t (i 0)) (i 1)) _ _

/-- The second result array: the imaginary part of what is read. -/
theorem readI_array : (dat1 V c).arrAt 6 cfg1.N = arr2 (readAll A0 A1 A2 A3 A3) := by
  refine (dat1 V c).arrAt_eq_of_covers 6 _ (by decide +kernel) fun t hf y => ?_
  blk_simp
  rw [after1_6]
  exact readI_block V c A0 A1 A2 A3 h0 h1 h2 h3 t y

include h4
omit h1 h3

/-- Block `t` of the third result array: the next memory's real part. -/
theorem nextR_block (t : Fin 64) (y : S16x256x256.Idx) :
    out1_7 (iblk1 V c 0 t) (iblk1 V c 1 t) (iblk1 V c 2 t) (iblk1 V c 3 t) (iblk1 V c 4 t) y
      = arr3 (nextAll A0 U A2) ((cfg1.win 7).blk t |>.view.emb y) := by
  idx_vars y
  rw [emb7 t]
  unfold out1_7
  rw [store3, ld2, ld2, ld3, blk0 V c A0 h0, blk2 V c A2 h2, blk4 V c U h4]
  exact norm_eq _ _ (fun b s d => next_eq (blkR A0 t) (blkR U t) (blkM A2 t) b s d) _ _ _

/-- The third result array: the next memory's real part. -/
theorem nextR_array : (dat1 V c).arrAt 7 cfg1.N = arr3 (nextAll A0 U A2) := by
  refine (dat1 V c).arrAt_eq_of_covers 7 _ (by decide +kernel) fun t hf y => ?_
  blk_simp
  rw [after1_7]
  exact nextR_block V c A0 U A2 h0 h2 h4 t y

omit h0 h2
include h1 h3

/-- Block `t` of the fourth result array: the next memory's imaginary part. -/
theorem nextI_block (t : Fin 64) (y : S16x256x256.Idx) :
    out1_8 (iblk1 V c 0 t) (iblk1 V c 1 t) (iblk1 V c 2 t) (iblk1 V c 3 t) (iblk1 V c 4 t) y
      = arr3 (nextAll A1 U A3) ((cfg1.win 8).blk t |>.view.emb y) := by
  idx_vars y
  rw [emb8 t]
  unfold out1_8
  rw [store3, ld2, ld2, ld3, blk1 V c A1 h1, blk3 V c A3 h3, blk4 V c U h4, norm_eq']
  exact norm_eq _ _ (fun b s d => next_eq' (blkR A1 t) (blkR U t) (blkM A3 t) b s d) _ _ _

/-- The fourth result array: the next memory's imaginary part. -/
theorem nextI_array : (dat1 V c).arrAt 8 cfg1.N = arr3 (nextAll A1 U A3) := by
  refine (dat1 V c).arrAt_eq_of_covers 8 _ (by decide +kernel) fun t hf y => ?_
  blk_simp
  rw [after1_8]
  exact nextI_block V c A1 U A3 h1 h3 h4 t y

end Blocks

end Cert.Stream

end
-- ==== Proof.AddrArray.lean ====
/-
  What the first kernel leaves in its two result arrays, from real arrays: the update weights of every batch row, and the
  mean entropy of the write weights.
-/
module

public import proofs.«01_k».proof.Proof.AddrBlock
public import proofs.«01_k».proof.Proof.StreamArray

@[expose] public section

set_option maxRecDepth 16384

noncomputable section

namespace Cert.Row

open Finset Idealize.ShloMosaic Cert.KernelIdeal
open Idealize.ShloMosaic.Pointwise

/-- Batch entry `b`'s gate. -/
def gateOf (A0 A1 : S1024x256.Idx → ℝ) (G : FVec Ideal S512x1 .f32) (g : EReal) (b : Fin 1024) : ℝ :=
  gate (cat (row A0 b) (row A1 b)) (fun k => G (ix2 k (0 : Fin 1))) g

/-- Batch entry `b`'s write weights. -/
def writeWeights (A0 A1 : S1024x256.Idx → ℝ) (W : S512x256.Idx → ℝ) (B : Fin 256 → ℝ) (b : Fin 1024) : Fin 256 → ℝ :=
  softmax (logits (cat (row A0 b) (row A1 b)) (fun k s => W (ix2 k s)) B)

/-- Every batch entry's update weights. -/
def updAll (A0 A1 : S1024x256.Idx → ℝ) (G : FVec Ideal S512x1 .f32) (g : EReal) (W : S512x256.Idx → ℝ) (B : Fin 256 → ℝ)
    (b : Fin 1024) (s : Fin 256) : ℝ :=
  upd (gateOf A0 A1 G g b) (writeWeights A0 A1 W B b) s

/-- A single number as an array of shape 1 by 1. -/
def arr11 (x : ℝ) : S1x1.Idx → EReal := fun _ => (x : EReal)

/-- The mean entropy of the write weights. -/
def entAll (A0 A1 : S1024x256.Idx → ℝ) (W : S512x256.Idx → ℝ) (B : Fin 256 → ℝ) : ℝ :=
  -((∑ b, ent (writeWeights A0 A1 W B b)) / 1024)

theorem writeWeights_pos (A0 A1 : S1024x256.Idx → ℝ) (W : S512x256.Idx → ℝ) (B : Fin 256 → ℝ) (b : Fin 1024) (s : Fin 256) :
    0 < writeWeights A0 A1 W B b s := softmax_pos _ _

/-- A sum over 1024 rows is the sum over 8 blocks of 128. -/
theorem sum_blocks (f : Fin 1024 → ℝ) :
    ∑ t : Fin 8, ∑ b : Fin 128, f ⟨128 * t.val + b.val, by omega⟩ = ∑ b, f b := by
  rw [← Fintype.sum_prod_type' fun (t : Fin 8) (b : Fin 128) => f ⟨128 * t.val + b.val, by omega⟩]
  rw [← Equiv.sum_comp (finProdFinEquiv (m := 8) (n := 128)) f]
  refine sum_congr rfl fun x _ => congrArg f (Fin.ext ?_)
  change 128 * x.1.val + x.2.val = x.2.val + 128 * x.1.val
  omega

end Cert.Row

namespace Cert.Addr

open Finset Idealize.ShloMosaic Cert.KernelIdeal Cert.KernelIdeal.Gen Cert.Row
open Idealize.ShloMosaic.TcCoe
open Idealize.ShloMosaic.Pointwise

theorem idx0 : ∀ t, win0_0.index t = ![t.val, 0] := by decide +kernel
theorem idx1 : ∀ t, win0_1.index t = ![t.val, 0] := by decide +kernel
theorem idx2 : ∀ t, win0_2.index t = ![0, 0] := by decide +kernel
theorem idx3 : ∀ t, win0_3.index t = ![0, 0] := by decide +kernel
theorem idx4 : ∀ t, win0_4.index t = ![0, 0] := by decide +kernel
theorem idx5 : ∀ t, win0_5.index t = ![0, 0] := by decide +kernel
theorem idx6 : ∀ t, win0_6.index t = ![t.val, 0] := by decide +kernel

/-- The batch entry that row `b` of block `t` is. -/
def at_ (t : Fin 8) (b : Fin 128) : Fin 1024 := ⟨128 * t.val + b.val, by omega⟩

/-- Block `t` of a batch of rows. -/
def blkR (A : S1024x256.Idx → ℝ) (t : Fin 8) : S128x256.Idx → ℝ := fun i => A (ix2 (at_ t (i 0)) (i 1 : Fin 256))

section Blocks
variable (V : (c : Dev nD) → (b : Ref sig .tc) → Buf (Elt Ideal) ((c : Thread nD τ).loc b)) (c : Dev nD)

theorem blk0 (A : S1024x256.Idx → ℝ) (h : V c main_arg0 = fun i => (A i : EReal)) (t : Fin 8) :
    iblk0 V c 0 t = fun i => (blkR A t i : EReal) := by
  have hp : ∀ (b : Fin 128) (d : Fin 256), iblk0 V c 0 t (ix2 b d) = V c main_arg0 (ix2 (at_ t b) d) := fun b d => by
    unfold at_; blk_ext [iblk0, idx0 t]
  funext i
  idx_vars i
  rw [hp, h]; rfl

theorem blk1 (A : S1024x256.Idx → ℝ) (h : V c main_arg1 = fun i => (A i : EReal)) (t : Fin 8) :
    iblk0 V c 1 t = fun i => (blkR A t i : EReal) := by
  have hp : ∀ (b : Fin 128) (d : Fin 256), iblk0 V c 1 t (ix2 b d) = V c main_arg1 (ix2 (at_ t b) d) := fun b d => by
    unfold at_; blk_ext [iblk0, idx1 t]
  funext i
  idx_vars i
  rw [hp, h]; rfl

theorem blk2 (t : Fin 8) : iblk0 V c 2 t = V c main_arg4 := by
  have hp : ∀ (b : Fin 512) (d : Fin 1), iblk0 V c 2 t (ix2 b d) = V c main_arg4 (ix2 b d) := fun b d => by
    blk_ext [iblk0, idx2 t]
  funext i
  idx_vars i
  exact hp _ _

theorem blk3 (t : Fin 8) : iblk0 V c 3 t = V c main_v0 := by
  have hp : ∀ (b : Fin 1) (d : Fin 1), iblk0 V c 3 t (ix2 b d) = V c main_v0 (ix2 b d) := fun b d => by
    blk_ext [iblk0, idx3 t]
  funext i
  idx_vars i
  exact hp _ _

theorem blk4 (t : Fin 8) : iblk0 V c 4 t = V c main_arg6 := by
  have hp : ∀ (b : Fin 512) (d : Fin 256), iblk0 V c 4 t (ix2 b d) = V c main_arg6 (ix2 b d) := fun b d => by
    blk_ext [iblk0, idx4 t]
  funext i
  idx_vars i
  exact hp _ _

theorem blk5 (t : Fin 8) : iblk0 V c 5 t = V c main_v1 := by
  have hp : ∀ (b : Fin 1) (d : Fin 256), iblk0 V c 5 t (ix2 b d) = V c main_v1 (ix2 b d) := fun b d => by
    blk_ext [iblk0, idx5 t]
  funext i
  idx_vars i
  exact hp _ _

theorem emb6 (t : Fin 8) (b : Fin 128) (d : Fin 256) : ((cfg0.win 6).blk t).view.emb (ix2 b d) = ix2 (at_ t b) d := by
  unfold at_; blk_ext [idx6 t]

/-- What every point leaves in the first result's block. -/
def block6 (t : Fin cfg0.N) : Vec Ideal S128x256 .f32 :=
  k0_pay1 (k0_pay3 (iblk0 V c 0 t) (iblk0 V c 1 t) (iblk0 V c 2 t) (iblk0 V c 3 t))
    (k0_pay4 (iblk0 V c 0 t) (iblk0 V c 1 t) (iblk0 V c 4 t) (iblk0 V c 5 t))
    (iota .tc S128x256 32 [1] iota_S128x256_d1_w32)
    (k0_pay12 (k0_pay4 (iblk0 V c 0 t) (iblk0 V c 1 t) (iblk0 V c 4 t) (iblk0 V c 5 t)))
    (k0_pay13 (k0_pay4 (iblk0 V c 0 t) (iblk0 V c 1 t) (iblk0 V c 4 t) (iblk0 V c 5 t)))
    (k0_pay14 (k0_pay4 (iblk0 V c 0 t) (iblk0 V c 1 t) (iblk0 V c 4 t) (iblk0 V c 5 t)))

theorem outs_fst (t : Fin cfg0.N) : (outsAt0 V c t.val t.isLt).1 = block6 V c t := by
  by_cases h0 : t.val % 8 = 0
  · rw [outsAt0_A V c t h0 (by omega)]; frame_out; rfl
  · by_cases h1 : t.val % 8 = 7
    · rw [outsAt0_C V c t h0 h1]; frame_out; rfl
    · rw [outsAt0_B V c t h0 h1]; frame_out; rfl

/-- What block `t` adds to the entropy. -/
def share (t : Fin cfg0.N) : Vec Ideal S1x1 .f32 := k0_pay5 (iblk0 V c 0 t) (iblk0 V c 1 t) (iblk0 V c 4 t) (iblk0 V c 5 t)

theorem outs_first (t : Fin cfg0.N) (h0 : t.val % 8 = 0) : (outsAt0 V c t.val t.isLt).2 = k0_pay7 (F := Ideal) (share V c t) (k0_pay6 (F := Ideal)) := by
  rw [outsAt0_A V c t h0 (by omega)]; frame_out; rfl

theorem outs_mid (t : Fin cfg0.N) (h0 : ¬t.val % 8 = 0) (h1 : ¬t.val % 8 = 7) :
    (outsAt0 V c t.val t.isLt).2 = k0_pay7 (share V c t) (outsAt0 V c (t.val - 1) (Nat.lt_of_le_of_lt (Nat.sub_le _ _) t.isLt)).2 := by
  rw [outsAt0_B V c t h0 h1]; frame_out; rfl

theorem outs_last (t : Fin cfg0.N) (h1 : t.val % 8 = 7) :
    (outsAt0 V c t.val t.isLt).2
      = k0_pay8 (k0_pay7 (share V c t) (outsAt0 V c (t.val - 1) (Nat.lt_of_le_of_lt (Nat.sub_le _ _) t.isLt)).2) := by
  rw [outsAt0_C V c t (by omega) h1]; frame_out; rfl

theorem lt_N (n : ℕ) (hn : n < 8) : n < cfg0.N := lt_of_lt_of_eq hn N_0.symm

/-- The second result after point `n`. -/
def acc (n : ℕ) (hn : n < 8) : EReal := (outsAt0 V c n (lt_N n hn)).2 (ix2 (0 : Fin 1) (0 : Fin 1))

/-- Block `t`'s share of it. -/
def shareAt (t : Fin 8) : EReal := share V c t (ix2 (0 : Fin 1) (0 : Fin 1))

theorem pay7_at (v w : FVec Ideal S1x1 .f32) :
    k0_pay7 v w (ix2 (0 : Fin 1) (0 : Fin 1)) = w (ix2 (0 : Fin 1) (0 : Fin 1)) + v (ix2 (0 : Fin 1) (0 : Fin 1)) := by
  pointwise [k0_pay7]

theorem pay6_at : k0_pay6 (F := Ideal) (ix2 (0 : Fin 1) (0 : Fin 1)) = 0 := by
  pointwise [k0_pay6]

theorem pay8_at (v : FVec Ideal S1x1 .f32) :
    k0_pay8 v (ix2 (0 : Fin 1) (0 : Fin 1)) = v (ix2 (0 : Fin 1) (0 : Fin 1)) * ((1 / 1024 : ℝ) : EReal) := by
  pointwise [k0_pay8]
  rw [← bits_1024th]

theorem acc_at (j : S1x1.Idx) : (outsAt0 V c t0_7.val t0_7.isLt).2 j = acc V c 7 (by omega) := by
  rw [show j = ix2 (0 : Fin 1) (0 : Fin 1) from funext fun a => Fin.ext (by fin_cases a <;> exact Nat.lt_one_iff.mp (j _).isLt)]
  rfl

theorem acc_first : acc V c 0 (by omega) = 0 + shareAt V c ⟨0, by omega⟩ :=
  (congrFun (outs_first V c ⟨0, lt_N 0 (by omega)⟩ rfl) _).trans ((pay7_at _ _).trans (congrArg (· + _) pay6_at))

theorem acc_mid (n : ℕ) (hn : n < 6) : acc V c (n + 1) (by omega) = acc V c n (by omega) + shareAt V c ⟨n + 1, by omega⟩ :=
  (congrFun (outs_mid V c ⟨n + 1, lt_N (n + 1) (by omega)⟩ (by simp only; omega) (by simp only; omega)) _).trans (pay7_at _ _)

theorem acc_last : acc V c 7 (by omega) = (acc V c 6 (by omega) + shareAt V c ⟨7, by omega⟩) * ((1 / 1024 : ℝ) : EReal) :=
  (congrFun (outs_last V c ⟨7, lt_N 7 (by omega)⟩ rfl) _).trans ((pay8_at _).trans (congrArg (· * _) (pay7_at _ _)))

variable (A0 A1 : S1024x256.Idx → ℝ) (G : FVec Ideal S512x1 .f32) (g : EReal) (W : S512x256.Idx → ℝ) (B : Fin 256 → ℝ)
  (h0 : V c main_arg0 = fun i => (A0 i : EReal)) (h1 : V c main_arg1 = fun i => (A1 i : EReal))
  (h2 : V c main_arg4 = G) (h3 : V c main_v0 = fun _ => g)
  (h4 : V c main_arg6 = fun i => (W i : EReal)) (h5 : V c main_v1 = fun i => (B (i 1) : EReal))
include h0 h1 h4 h5

/-- The write weights of block `t`. -/
theorem weights_block (t : Fin 8) :
    k0_pay4 (iblk0 V c 0 t) (iblk0 V c 1 t) (iblk0 V c 4 t) (iblk0 V c 5 t)
      = up fun i : S128x256.Idx => writeWeights A0 A1 W B (at_ t (i 0)) (i 1) := by
  rw [blk0 V c A0 h0, blk1 V c A1 h1, blk4 V c t, blk5 V c t, h4, h5]
  funext i
  idx_vars i
  exact weights_eq (blkR A0 t) (blkR A1 t) W (fun i => B (i 1)) _ _

/-- Block `t`'s share of the entropy. -/
theorem share_eq (t : Fin 8) :
    shareAt V c t = ((-∑ b : Fin 128, ent (writeWeights A0 A1 W B (at_ t b)) : ℝ) : EReal) :=
  entropy_eq (fun i : S128x256.Idx => writeWeights A0 A1 W B (at_ t (i 0)) (i 1)) (fun i => writeWeights_pos A0 A1 W B _ _) _ _ _ _
    (weights_block V c A0 A1 W B h0 h1 h4 h5 t)

/-- Before the last point the second result holds the sum of the shares so far. -/
theorem entropy_sofar : ∀ (n : ℕ) (hn : n < 7),
    acc V c n (by omega) = ((∑ t : Fin (n + 1), -∑ b : Fin 128, ent (writeWeights A0 A1 W B (at_ ⟨t.val, by omega⟩ b)) : ℝ) : EReal)
  | 0, hn => by
    rw [acc_first, share_eq V c A0 A1 W B h0 h1 h4 h5, zero_add]
    simp
  | n + 1, hn => by
    rw [acc_mid V c n (by omega), share_eq V c A0 A1 W B h0 h1 h4 h5, entropy_sofar n (by omega), ← EReal.coe_add,
      Fin.sum_univ_castSucc (n := n + 1)]
    rfl

/-- At the last point it holds the mean entropy of the write weights. -/
theorem entropy_last : acc V c 7 (by omega) = (entAll A0 A1 W B : EReal) := by
  rw [acc_last, share_eq V c A0 A1 W B h0 h1 h4 h5, entropy_sofar V c A0 A1 W B h0 h1 h4 h5 6 (by omega), ← EReal.coe_add, ← EReal.coe_mul]
  congr 1
  unfold entAll
  rw [← sum_blocks fun b => ent (writeWeights A0 A1 W B b), Fin.sum_univ_castSucc (n := 7)]
  simp only [Finset.sum_neg_distrib]
  change (-(∑ t : Fin 7, ∑ b : Fin 128, ent (writeWeights A0 A1 W B (at_ ⟨t.val, _⟩ b))) + -(∑ b : Fin 128, ent (writeWeights A0 A1 W B (at_ ⟨7, _⟩ b)))) * (1 / 1024)
    = -((∑ t : Fin 7, ∑ b : Fin 128, ent (writeWeights A0 A1 W B (at_ ⟨t.val, _⟩ b)) + ∑ b : Fin 128, ent (writeWeights A0 A1 W B (at_ ⟨7, _⟩ b))) / 1024)
  ring

/-- The second result array: the mean entropy of the write weights. -/
theorem entropy_array : (dat0 V c).arrAt 7 cfg0.N = arr11 (entAll A0 A1 W B) := by
  refine (dat0 V c).arrAt_eq_of_after_last 7 t0_7 (by decide +kernel) _ fun j => ?_
  blk_simp
  rw [after0_7]
  exact (acc_at V c j).trans (entropy_last V c A0 A1 W B h0 h1 h4 h5)

include h2 h3

/-- Block `t` of the first result array: the update weights. -/
theorem upd_block (t : Fin 8) (y : S128x256.Idx) :
    block6 V c t y = arr2 (updAll A0 A1 G g W B) ((cfg0.win 6).blk t |>.view.emb y) := by
  idx_vars y
  rw [emb6 t]
  unfold block6
  rw [weights_block V c A0 A1 W B h0 h1 h4 h5 t, blk0 V c A0 h0, blk1 V c A1 h1, blk2 V c t, blk3 V c t, h2, h3]
  exact update_eq _ (fun i => (writeWeights_pos A0 A1 W B _ _).le) _ (fun b => gateOf A0 A1 G g (at_ t b))
    (fun b => gate_eq (blkR A0 t) (blkR A1 t) G (fun _ => g) b) _ _

/-- The first result array: the update weights. -/
theorem upd_array : (dat0 V c).arrAt 6 cfg0.N = arr2 (updAll A0 A1 G g W B) := by
  refine (dat0 V c).arrAt_eq_of_covers 6 _ (by decide +kernel) fun t hf y => ?_
  blk_simp
  rw [after0_6, outs_fst]
  exact upd_block V c A0 A1 G g W B h0 h1 h2 h3 h4 h5 t y

end Blocks

end Cert.Addr

end
-- ==== Proof.KernelRun.lean ====
/- The kernel's run, with its results: every execution ends, and each result buffer holds what the last boundary's
contents `W4` say. The launch's set-up follows the frame's. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel's program ends; every buffer that outlives the regions then holds the last
    boundary's contents, and every semaphore counter is zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.KernelIdeal.Run
-- ==== Proof.KernelValue.lean ====
/-
  The kernel's five results, from real arguments (the gate's may be infinite): both regions' arrays, joined at the buffers that carry one region's
  result to the next.
-/
module

public import proofs.«01_k».proof.Proof.AddrArray
public import proofs.«01_k».proof.Proof.KernelRun
public import Idealize.ShloMosaic.Lib.StableHlo.ReadAt

@[expose] public section

set_option maxRecDepth 16384

noncomputable section

namespace Cert.Kernels

open Finset Idealize.ShloMosaic Cert.KernelIdeal Cert.KernelIdeal.Gen Cert.Row
open Idealize.ShloMosaic.TcCoe
open Idealize.ShloMosaic.Pointwise

variable (m : (ℓ : Loc nD τ sig) → Buf (Elt Ideal) ℓ) (ρ : Dev nD → PrngReg) (c : Dev nD)

/-- The first kernel's gate bias is the argument under two unit axes. -/
theorem bias_gate (i : S1x1.Idx) : V1 m ρ c main_v0 i = m ((c : Thread nD τ).loc main_arg5) (ix1 (0 : Fin 1)) := by
  idx_vars i
  change StableHlo.after hostOps0 (W0 m ρ c) (Proc.devRef .tc main_v0) _ = _
  after_reads_at

/-- The first kernel's address bias is the argument under a unit axis. -/
theorem bias_addr (i : S1x256.Idx) : V1 m ρ c main_v1 i = m ((c : Thread nD τ).loc main_arg7) (ix1 (i 1 : Fin 256)) := by
  idx_vars i
  change StableHlo.after hostOps0 (W0 m ρ c) (Proc.devRef .tc main_v1) _ = _
  after_reads_at

/-- The fifth result is the first kernel's second array without its unit axes. -/
theorem result_v4 (i : S_.Idx) : W4 m ρ c (Proc.devRef .tc main_v4) i = W3 m ρ c (Proc.devRef .tc main_v2_1) (ix2 (0 : Fin 1) (0 : Fin 1)) := by
  change StableHlo.after hostOps2 (W3 m ρ c) (Proc.devRef .tc main_v4) _ = _
  after_reads_at

variable (A0 A1 : S1024x256.Idx → ℝ) (A2 A3 : S1024x256x256.Idx → ℝ) (G : FVec Ideal S512x1 .f32) (g : EReal) (W : S512x256.Idx → ℝ) (B : Fin 256 → ℝ)

/-- The arguments the results depend on are these arrays: reals, but for the gate's weights and bias. -/
structure Args : Prop where
  a0 : m ((c : Thread nD τ).loc main_arg0) = fun i => (A0 i : EReal)
  a1 : m ((c : Thread nD τ).loc main_arg1) = fun i => (A1 i : EReal)
  a2 : m ((c : Thread nD τ).loc main_arg2) = fun i => (A2 i : EReal)
  a3 : m ((c : Thread nD τ).loc main_arg3) = fun i => (A3 i : EReal)
  a4 : m ((c : Thread nD τ).loc main_arg4) = G
  a5 : m ((c : Thread nD τ).loc main_arg5) = fun _ => g
  a6 : m ((c : Thread nD τ).loc main_arg6) = fun i => (W i : EReal)
  a7 : m ((c : Thread nD τ).loc main_arg7) = fun i => (B (i 0) : EReal)

variable (h : Args m c A0 A1 A2 A3 G g W B)
include h

theorem v0_eq : V1 m ρ c main_v0 = fun _ => g :=
  funext fun i => (bias_gate m ρ c i).trans (by rw [h.a5])

theorem v1_eq : V1 m ρ c main_v1 = fun i => (B (i 1) : EReal) :=
  funext fun i => (bias_addr m ρ c i).trans (by rw [h.a7]; rfl)

/-- The update weights, where the second kernel reads them. -/
theorem updates : V2 m ρ c main_v2_0 = arr2 (updAll A0 A1 G g W B) :=
  (W2_arr m ρ c 6).trans (Addr.upd_array (V1 m ρ) c A0 A1 G g W B
    ((W1_args m ρ c main_arg0 (by decide)).trans h.a0) ((W1_args m ρ c main_arg1 (by decide)).trans h.a1)
    ((W1_args m ρ c main_arg4 (by decide)).trans h.a4) (v0_eq m ρ c A0 A1 A2 A3 G g W B h)
    ((W1_args m ρ c main_arg6 (by decide)).trans h.a6) (v1_eq m ρ c A0 A1 A2 A3 G g W B h))

/-- The first result: the real part of what is read. -/
theorem result0 : W4 m ρ c (Proc.devRef .tc main_v3_0) = arr2 (readAll A0 A1 A2 A3 A2) :=
  ((W4_of m ρ c main_v3_0 (by decide)).trans (W3_arr m ρ c 5)).trans (Stream.readR_array (V2 m ρ) c A0 A1 A2 A3
    ((W2_args m ρ c main_arg0 (by decide)).trans h.a0) ((W2_args m ρ c main_arg1 (by decide)).trans h.a1)
    ((W2_args m ρ c main_arg2 (by decide)).trans h.a2) ((W2_args m ρ c main_arg3 (by decide)).trans h.a3))

/-- The second result: the imaginary part of what is read. -/
theorem result1 : W4 m ρ c (Proc.devRef .tc main_v3_1) = arr2 (readAll A0 A1 A2 A3 A3) :=
  ((W4_of m ρ c main_v3_1 (by decide)).trans (W3_arr m ρ c 6)).trans (Stream.readI_array (V2 m ρ) c A0 A1 A2 A3
    ((W2_args m ρ c main_arg0 (by decide)).trans h.a0) ((W2_args m ρ c main_arg1 (by decide)).trans h.a1)
    ((W2_args m ρ c main_arg2 (by decide)).trans h.a2) ((W2_args m ρ c main_arg3 (by decide)).trans h.a3))

/-- The third result: the next memory's real part. -/
theorem result2 : W4 m ρ c (Proc.devRef .tc main_v3_2) = arr3 (nextAll A0 (fun i => updAll A0 A1 G g W B (i 0) (i 1)) A2) :=
  ((W4_of m ρ c main_v3_2 (by decide)).trans (W3_arr m ρ c 7)).trans (Stream.nextR_array (V2 m ρ) c A0
    (fun i => updAll A0 A1 G g W B (i 0) (i 1)) A2
    ((W2_args m ρ c main_arg0 (by decide)).trans h.a0) ((W2_args m ρ c main_arg2 (by decide)).trans h.a2)
    (updates m ρ c A0 A1 A2 A3 G g W B h))

/-- The fourth result: the next memory's imaginary part. -/
theorem result3 : W4 m ρ c (Proc.devRef .tc main_v3_3) = arr3 (nextAll A1 (fun i => updAll A0 A1 G g W B (i 0) (i 1)) A3) :=
  ((W4_of m ρ c main_v3_3 (by decide)).trans (W3_arr m ρ c 8)).trans (Stream.nextI_array (V2 m ρ) c A1
    (fun i => updAll A0 A1 G g W B (i 0) (i 1)) A3
    ((W2_args m ρ c main_arg1 (by decide)).trans h.a1) ((W2_args m ρ c main_arg3 (by decide)).trans h.a3)
    (updates m ρ c A0 A1 A2 A3 G g W B h))

/-- The fifth result: the mean entropy of the write weights. -/
theorem result4 : W4 m ρ c (Proc.devRef .tc main_v4) = fun _ : S_.Idx => (entAll A0 A1 W B : EReal) := by
  funext i
  rw [result_v4 m ρ c i, W3_of m ρ c main_v2_1 (by decide)]
  exact congrFun ((W2_arr m ρ c 7).trans (Addr.entropy_array (V1 m ρ) c A0 A1 W B
    ((W1_args m ρ c main_arg0 (by decide)).trans h.a0) ((W1_args m ρ c main_arg1 (by decide)).trans h.a1)
    ((W1_args m ρ c main_arg6 (by decide)).trans h.a6) (v1_eq m ρ c A0 A1 A2 A3 G g W B h))) _

end Cert.Kernels

end
-- ==== Proof.RefSoft.lean ====
/-
  The reference's first stages, from real arguments: both softmaxes, what is read, the gate and the entropy are the row
  functions of `Spec` at each batch row.
-/
module

public import proofs.«01_k».proof.Proof.AddrArray
public import proofs.«01_k».proof.Proof.Gen.ReferenceIdeal.Read

@[expose] public section

set_option maxRecDepth 16384

noncomputable section

namespace Cert.Ref

open Finset Idealize.ShloMosaic Cert.ReferenceIdeal Cert.ReferenceIdeal.Read Cert.Row
open Idealize.ShloMosaic.Pointwise

/-- A real array among the extended reals. -/
abbrev up {s : Shape} (A : s.Idx → ℝ) : FVec Ideal s .f32 := fun i => (A i : EReal)

/-- A real vector of 256 entries among the extended reals. -/
def bias (B : Fin 256 → ℝ) : FVec Ideal S256 .f32 := fun i => (B (i 0) : EReal)

theorem bias_at (B : Fin 256 → ℝ) (s : Fin 256) : bias B (ix1 s) = (B s : EReal) := rfl

variable (A0 A1 : S1024x256.Idx → ℝ) (A2 A3 : S1024x256x256.Idx → ℝ) (G : FVec Ideal S512x1 .f32) (g : EReal) (W : S512x256.Idx → ℝ) (B : Fin 256 → ℝ)

/-- The similarities. -/
theorem sim_at (b : Fin 1024) (s : Fin 256) :
    val_main_v7 (F := Ideal) (up A0) (up A1) (up A2) (up A3) (ix2 b s) = (sim (row A0 b) (row A1 b) (slab A2 b) (slab A3 b) s : EReal) := by
  pointwise [val_main_v7, val_main_v6, val_main_v5, val_main_v4, val_main_v3, val_main_v2, val_main_v1, val_main_v0, val_main_cst, up]
  simp only [← EReal.coe_mul, ← EReal.coe_add, ← coe_sum]
  rfl

/-- The similarities shifted by the row's greatest. -/
theorem sim_shift (b : Fin 1024) : ∃ M : ℝ, ∀ s : Fin 256,
    val_main_v11 (F := Ideal) (up A0) (up A1) (up A2) (up A3) (ix2 b s) = ((sim (row A0 b) (row A1 b) (slab A2 b) (slab A3 b) s - M : ℝ) : EReal) := by
  obtain ⟨M, hM⟩ := fold_max_coe univ ⟨0, mem_univ _⟩ (sim (row A0 b) (row A1 b) (slab A2 b) (slab A3 b))
  refine ⟨M, fun s => ?_⟩
  pointwise [val_main_v11, val_main_v10, val_main_v9, val_main_v8, val_main_cst_0]
  simp only [sim_at, bits_bot]
  rw [hM, EReal.coe_sub]

/-- The read weights. -/
theorem weights_at (b : Fin 1024) (s : Fin 256) :
    val_main_v22 (F := Ideal) (up A0) (up A1) (up A2) (up A3) (ix2 b s) = (readWeights A0 A1 A2 A3 b s : EReal) := by
  obtain ⟨M, hM⟩ := sim_shift A0 A1 A2 A3 b
  pointwise [val_main_v22, val_main_v21, val_main_v20, val_main_v19, val_main_v18, val_main_v17, val_main_v16, val_main_v15, val_main_v14,
    val_main_v13, val_main_v12, val_main_cst_1, val_main_cst_2, val_main_cst_3]
  simp only [hM, bits_bot, max_bot_left]
  rw [softmax_div (fun s => sim (row A0 b) (row A1 b) (slab A2 b) (slab A3 b) s - M) s]
  congr 1
  exact softmax_shift _ M s

/-- What is read, real part. -/
theorem readR_at (b : Fin 1024) (d : Fin 256) :
    val_main_v26 (F := Ideal) (up A0) (up A1) (up A2) (up A3) (ix2 b d) = (readAll A0 A1 A2 A3 A2 b d : EReal) := by
  pointwise [val_main_v26, val_main_v25, val_main_v24, val_main_v23, val_main_cst_4]
  simp only [weights_at, up, ← EReal.coe_mul, ← coe_sum]
  rfl

/-- What is read, imaginary part. -/
theorem readI_at (b : Fin 1024) (d : Fin 256) :
    val_main_v29 (F := Ideal) (up A0) (up A1) (up A2) (up A3) (ix2 b d) = (readAll A0 A1 A2 A3 A3 b d : EReal) := by
  pointwise [val_main_v29, val_main_v28, val_main_v27, val_main_v23, val_main_cst_5]
  simp only [weights_at, up, ← EReal.coe_mul, ← coe_sum]
  rfl

/-- The gate. -/
theorem gate_at (b : Fin 1024) :
    val_main_v40 (F := Ideal) (up A0) (up A1) G (fun _ => g) (ix2 b (0 : Fin 1)) = (gateOf A0 A1 G g b : EReal) := by
  pointwise [val_main_v40, val_main_v39, val_main_v38, val_main_v37, val_main_v36, val_main_v35, val_main_v34, val_main_v33, val_main_v32,
    val_main_v31, val_main_v30, val_main_cst_6, val_main_cst_7, up]
  unfold gateOf gate
  rw [sum_cat_ext, ← logistic_real]
  rfl

/-- The write address's logits. -/
theorem logits_at (b : Fin 1024) (s : Fin 256) :
    val_main_v45 (F := Ideal) (up A0) (up A1) (up W) (bias B) (ix2 b s)
      = (logits (cat (row A0 b) (row A1 b)) (fun k s => W (ix2 k s)) B s : EReal) := by
  pointwise [val_main_v45, val_main_v44, val_main_v43, val_main_v42, val_main_v30, up]
  simp only [bias_at, ← EReal.coe_mul, ← coe_sum, ← EReal.coe_add]
  unfold logits
  rw [sum_cat _ _ fun k => W (ix2 k s)]
  rfl

/-- The logits shifted by the row's greatest. -/
theorem logits_shift (b : Fin 1024) : ∃ M : ℝ, ∀ s : Fin 256,
    val_main_v49 (F := Ideal) (up A0) (up A1) (up W) (bias B) (ix2 b s)
      = ((logits (cat (row A0 b) (row A1 b)) (fun k s => W (ix2 k s)) B s - M : ℝ) : EReal) := by
  obtain ⟨M, hM⟩ := fold_max_coe univ ⟨0, mem_univ _⟩ (logits (cat (row A0 b) (row A1 b)) (fun k s => W (ix2 k s)) B)
  refine ⟨M, fun s => ?_⟩
  pointwise [val_main_v49, val_main_v48, val_main_v47, val_main_v46, val_main_cst_8]
  simp only [logits_at, bits_bot]
  rw [hM, EReal.coe_sub]

/-- The shifted logits' greatest. -/
theorem logits_max (b : Fin 1024) :
    val_main_v52 (F := Ideal) (up A0) (up A1) (up W) (bias B) (ix1 b)
      = univ.fold max (⊥ : EReal) fun s : Fin 256 => val_main_v49 (F := Ideal) (up A0) (up A1) (up W) (bias B) (ix2 b s) := by
  pointwise [val_main_v52, val_main_v51, val_main_v50, val_main_cst_9, val_main_cst_10]
  simp only [bits_bot, max_bot_left]

/-- Their exponentials. -/
theorem exp_at (b : Fin 1024) (s : Fin 256) :
    val_main_v56 (F := Ideal) (up A0) (up A1) (up W) (bias B) (ix2 b s)
      = Ideal.exp (val_main_v49 (F := Ideal) (up A0) (up A1) (up W) (bias B) (ix2 b s)
        - univ.fold max (⊥ : EReal) fun s : Fin 256 => val_main_v49 (F := Ideal) (up A0) (up A1) (up W) (bias B) (ix2 b s)) := by
  pointwise [val_main_v56, val_main_v55, val_main_v54, val_main_v53]
  rw [logits_max]

/-- The write weights. -/
theorem write_at (b : Fin 1024) (s : Fin 256) :
    val_main_v60 (F := Ideal) (up A0) (up A1) (up W) (bias B) (ix2 b s) = (writeWeights A0 A1 W B b s : EReal) := by
  obtain ⟨M, hM⟩ := logits_shift A0 A1 W B b
  pointwise [val_main_v60, val_main_v59, val_main_v58, val_main_v57, val_main_cst_11]
  simp only [exp_at, hM]
  rw [softmax_div (fun s => logits (cat (row A0 b) (row A1 b)) (fun k s => W (ix2 k s)) B s - M) s]
  congr 1
  exact softmax_shift _ M s

/-- The mean entropy of the write weights. -/
theorem entropy_at (i : S_.Idx) :
    val_main_v68 (F := Ideal) (up A0) (up A1) (up W) (bias B) i = (entAll A0 A1 W B : EReal) := by
  pointwise [val_main_v68, val_main_v67, val_main_v66, val_main_v65, val_main_v64, val_main_v63, val_main_v62, val_main_v61,
    val_main_cst_12, val_main_cst_13, val_main_cst_14, val_main_cst_15]
  have hl : ∀ b s, Ideal.log ((writeWeights A0 A1 W B b s : EReal) + (ε10 : EReal)) = (Real.log (writeWeights A0 A1 W B b s + ε10) : EReal) :=
    fun b s => log_real _ (add_pos (writeWeights_pos A0 A1 W B b s) ε10_pos)
  simp only [write_at, bits_ε10, hl, ← EReal.coe_mul, ← coe_sum]
  rw [show Ideal.ofBits FTy.f32 _ = _ from bits_1024, div_real _ _ (by norm_num), ← EReal.coe_neg]
  rfl

end Cert.Ref

end
-- ==== Proof.RefTop.lean ====
/-
  The reference's sparse write weights: its top-3 and the scatter that puts the three values back leave each row's three
  greatest weights and zeros elsewhere.
-/
module

public import proofs.«01_k».proof.Proof.RefSoft
public import Idealize.ShloMosaic.Lib.Routing.OpsSet

@[expose] public section

set_option maxRecDepth 16384

noncomputable section

namespace Cert.Ref

open Finset Idealize.ShloMosaic Cert.ReferenceIdeal Cert.ReferenceIdeal.Read Cert.Row
open Idealize.ShloMosaic.Pointwise

theorem along_row (b : Fin 1024) (s k : Fin 256) : (ix2 b s : S1024x256.Idx).along 1 k = ix2 b k := by
  funext a
  fin_cases a <;> rfl

/-- A comparison of two reals by "greater" says whether the second is less. -/
theorem greater_iff (x y : ℝ) : (FloatOps.cmpfTotal (F := Ideal) (φ := .f32) .gt (x : EReal) (y : EReal) == 1#1) = true ↔ y < x := by
  change (BitVec.ofBool (decide ((y : EReal) < (x : EReal))) == 1#1) = true ↔ _
  rw [← EReal.coe_lt_coe_iff]
  by_cases h : (y : EReal) < (x : EReal) <;> simp [h]

section Top
variable (X : FVec Ideal S1024x256 .f32) (w : Fin 1024 → Fin 256 → ℝ) (hX : ∀ b s, X (ix2 b s) = (w b s : EReal))

/-- The slots of a row in the sort's order. -/
def order (b : Fin 1024) : Fin 256 → Fin 256 :=
  sortedFrom fun k k' => FloatOps.cmpfTotal .gt (X (ix2 b k)) (X (ix2 b k')) == 1#1

/-- The index the sort reads at row `b`, position `s`. -/
theorem along_order (b : Fin 1024) (s : Fin 256) :
    (ix2 b s : S1024x256.Idx).along 1 (sortedFrom (fun k k' => FloatOps.cmpfTotal .gt (X ((ix2 b s : S1024x256.Idx).along 1 k))
        (X ((ix2 b s : S1024x256.Idx).along 1 k')) == 1#1) s) = ix2 b (order X b s) := by
  have hR : (fun k k' : Fin 256 => FloatOps.cmpfTotal .gt (X ((ix2 b s : S1024x256.Idx).along 1 k)) (X ((ix2 b s : S1024x256.Idx).along 1 k')) == 1#1)
      = fun k k' => FloatOps.cmpfTotal .gt (X (ix2 b k)) (X (ix2 b k')) == 1#1 := by
    funext k k'
    rw [along_row, along_row]
  exact (along_row b s _).trans (congrArg (fun R => (ix2 b (sortedFrom R s) : S1024x256.Idx)) hR)

/-- The first three positions of a row, as an index of the whole row. -/
theorem cut_index (h : S1024x256.Slices (fun _ => 0) S1024x3) (b : Fin 1024) (r : Fin 3) {α : Type} (f : S1024x256.Idx → α) :
    extractStridedSlice S1024x3 (fun _ => 0) f h (ix2 b r) = f (ix2 b (⟨r.val, by omega⟩ : Fin 256)) := by
  unfold extractStridedSlice
  refine congrArg f (funext fun a => Fin.ext ?_)
  fin_cases a
  · exact Nat.zero_add _
  · exact Nat.zero_add _

theorem top_values (h : S1024x256.Slices (fun _ => 0) S1024x3) (b : Fin 1024) (r : Fin 3) :
    (Host.topK S1024x3 1 (FloatOps.cmpfTotal .gt) X h).1 (ix2 b r) = X (ix2 b (order X b ⟨r.val, by omega⟩)) := by
  unfold Host.topK Host.sort2
  simp only [cut_index]
  exact congrArg X (along_order X b _)

theorem top_indices (h : S1024x256.Slices (fun _ => 0) S1024x3) (b : Fin 1024) (r : Fin 3) :
    (Host.topK S1024x3 1 (FloatOps.cmpfTotal .gt) X h).2 (ix2 b r) = BitVec.ofNat 32 (order X b ⟨r.val, by omega⟩).val := by
  unfold Host.topK Host.sort2
  simp only [cut_index]
  refine (congrArg (fun i : S1024x256.Idx => if hd : 1 < S1024x256.rank then iotaInDim S1024x256 32 ⟨1, hd⟩ i else 0#32)
    (along_order X b _)).trans ?_
  generalize order X b _ = q
  rfl

include hX

/-- The slot the top-3 picks at position `r` of row `b`: the one of rank `r`. -/
theorem top_at (h : S1024x256.Slices (fun _ => 0) S1024x3) : ∃ p : Fin 1024 → Fin 3 → Fin 256, ∀ b r, rank (w b) (p b r) = r.val
    ∧ (Host.topK S1024x3 1 (FloatOps.cmpfTotal .gt) X h).1 (ix2 b r) = (w b (p b r) : EReal)
    ∧ (Host.topK S1024x3 1 (FloatOps.cmpfTotal .gt) X h).2 (ix2 b r) = BitVec.ofNat 32 (p b r).val := by
  refine ⟨fun b r => order X b ⟨r.val, by omega⟩, fun b r => ⟨?_, ?_, ?_⟩⟩
  · refine rank_sortedFrom (w b) _ (fun k k' => ?_) _
    rw [hX, hX]
    exact greater_iff _ _
  · rw [top_values, hX]
  · rw [top_indices]

end Top

variable (A0 A1 : S1024x256.Idx → ℝ) (W : S512x256.Idx → ℝ) (B : Fin 256 → ℝ)

/-- The row words of the scatter. -/
theorem rowWord_at (b : Fin 1024) (r : Fin 3) :
    (val_main_v85 (F := Ideal) (up A0) (up A1) (up W) (bias B) (ix3 b r (0 : Fin 2))).toInt = b.val := by
  have h : val_main_v85 (F := Ideal) (up A0) (up A1) (up W) (bias B) (ix3 b r (0 : Fin 2)) = BitVec.ofNat 32 b.val := by
    pointwise [val_main_v85, val_main_v83, val_main_v82, val_main_v76, val_main_v75, val_main_v74, val_main_v73, val_main_v72, val_main_v70,
      val_main_v69, val_main_c, val_main_c_17]
    exact Routing.wrap_of_lt _ _ (by rw [BitVec.toNat_ofNat]; omega)
  rw [h, BitVec.toInt_ofNat']
  simp only [Int.bmod]; omega

/-- The slot words of the scatter: the top-3's indices. -/
theorem slotWord_at (b : Fin 1024) (r : Fin 3) (p : Fin 256)
    (hp : val_main_indices (F := Ideal) (up A0) (up A1) (up W) (bias B) (ix2 b r) = BitVec.ofNat 32 p.val) :
    (val_main_v85 (F := Ideal) (up A0) (up A1) (up W) (bias B) (ix3 b r (1 : Fin 2))).toInt = p.val := by
  have h : val_main_v85 (F := Ideal) (up A0) (up A1) (up W) (bias B) (ix3 b r (1 : Fin 2)) = BitVec.ofNat 32 p.val := by
    pointwise [val_main_v85, val_main_v84, val_main_v81, val_main_v80, val_main_v79, val_main_v78, val_main_v77, val_main_c_18, val_main_c_19]
    rw [hp]
    exact Routing.wrap_of_lt _ _ (by rw [BitVec.toNat_ofNat]; omega)
  rw [h]
  exact toInt_small _ (by omega)

/-- The three greatest write weights of each row and zeros. -/
theorem sparse_at (b : Fin 1024) (s : Fin 256) :
    val_main_v86 (F := Ideal) (up A0) (up A1) (up W) (bias B) (ix2 b s) = (sparse (writeWeights A0 A1 W B b) s : EReal) := by
  obtain ⟨p, hp⟩ := top_at (val_main_v60 (F := Ideal) (up A0) (up A1) (up W) (bias B)) (writeWeights A0 A1 W B) (write_at A0 A1 W B)
    Cert.ReferenceIdeal.Gen.sliceFits_S1024x256_S1024x3
  have hland : ∀ (b' : Fin 1024) (r : Fin 3),
      scatter_S1024x256_S1024x3x2_S1024x3_n_01_01_2.resultIdx? (ix2 b' r) (val_main_v85 (F := Ideal) (up A0) (up A1) (up W) (bias B)) = some (ix2 b s)
        ↔ b' = b ∧ p b' r = s := by
    intro b' r
    refine (Routing.scatter_lands2 scatter_S1024x256_S1024x3x2_S1024x3_n_01_01_2 rfl rfl rfl _ b' r b s).trans ?_
    have h1 := rowWord_at A0 A1 W B b' r
    have h2 := slotWord_at A0 A1 W B b' r (p b' r) (hp b' r).2.2
    refine (and_congr (Eq.congr h1 rfl) (Eq.congr h2 rfl)).trans ?_
    rw [Fin.ext_iff, Fin.ext_iff]
    omega
  unfold val_main_v86 sparse
  by_cases hr : rank (writeWeights A0 A1 W B b) s < 3
  · rw [if_pos hr]
    have hs : p b ⟨_, hr⟩ = s := rank_inj _ (hp b ⟨_, hr⟩).1
    refine Routing.scatter_set_hit _ _ _ _ _ _ (fun k hk => ?_) (ix2 b ⟨_, hr⟩) ((hland b ⟨_, hr⟩).mpr ⟨rfl, hs⟩)
    idx_vars k
    obtain ⟨rfl, h2⟩ := (hland _ _).mp hk
    exact (hp _ _).2.1.trans (by rw [h2])
  · rw [if_neg hr, Routing.scatter_set_miss]
    · pointwise [val_main_v71, val_main_cst_16]
      simp
    · intro k hk
      idx_vars k
      obtain ⟨rfl, h2⟩ := (hland _ _).mp hk
      exact hr (h2 ▸ (hp _ _).1.trans_lt (Fin.isLt _))

end Cert.Ref

end
-- ==== Proof.RefNext.lean ====
/-
  The reference's update weights and next memories, from real arguments, at weights one and biases zero of its two
  normalisations.
-/
module

public import proofs.«01_k».proof.Proof.RefTop

@[expose] public section

set_option maxRecDepth 16384

noncomputable section

namespace Cert.Ref

open Finset Idealize.ShloMosaic Cert.ReferenceIdeal Cert.ReferenceIdeal.Read Cert.Row
open Idealize.ShloMosaic.Pointwise

/-- One number as a vector of one entry. -/
def single (g : EReal) : FVec Ideal S1 .f32 := fun _ => g

variable (A0 A1 : S1024x256.Idx → ℝ) (A2 A3 : S1024x256x256.Idx → ℝ) (G : FVec Ideal S512x1 .f32) (g : EReal) (W : S512x256.Idx → ℝ) (B : Fin 256 → ℝ)

/-- The sparse weights over their sum. -/
theorem share_at (b : Fin 1024) (s : Fin 256) :
    val_main_v92 (F := Ideal) (up A0) (up A1) (up W) (bias B) (ix2 b s)
      = ((sparse (writeWeights A0 A1 W B b) s / (∑ j, sparse (writeWeights A0 A1 W B b) j + ε6) : ℝ) : EReal) := by
  pointwise [val_main_v92, val_main_v91, val_main_v90, val_main_v89, val_main_v88, val_main_v87, val_main_cst_20, val_main_cst_21]
  simp only [sparse_at, bits_ε6, ← coe_sum, ← EReal.coe_add]
  have hp : 0 < ∑ j, sparse (writeWeights A0 A1 W B b) j + ε6 := by
    refine add_pos_of_nonneg_of_pos (sum_nonneg fun j _ => ?_) ε6_pos
    unfold sparse
    split
    · exact (writeWeights_pos A0 A1 W B b _).le
    · exact le_rfl
  rw [div_real _ _ hp.ne']

/-- The update weights. -/
theorem upd_at (b : Fin 1024) (s : Fin 256) :
    val_main_v95 (F := Ideal) (up A0) (up A1) G (single g) (up W) (bias B) (ix3 b s (0 : Fin 1))
      = (updAll A0 A1 G g W B b s : EReal) := by
  pointwise [val_main_v95, val_main_v94, val_main_v93, val_main_v41]
  rw [share_at, show val_main_v40 (F := Ideal) (up A0) (up A1) G (single g) (ix2 b (0 : Fin 1)) = _ from gate_at A0 A1 G g b, ← EReal.coe_mul]
  rfl

/-- The blended memory, real part. -/
theorem nextR_at (b : Fin 1024) (s d : Fin 256) :
    val_main_v103 (F := Ideal) (up A0) (up A1) (up A2) G (single g) (up W) (bias B) (ix3 b s d)
      = (next (updAll A0 A1 G g W B b) (slab A2 b) (row A0 b) s d : EReal) := by
  pointwise [val_main_v103, val_main_v102, val_main_v101, val_main_v100, val_main_v99, val_main_v98, val_main_v97, val_main_v96, val_main_v0,
    val_main_cst_22]
  simp only [upd_at, up]
  rw [← EReal.coe_one, ← EReal.coe_sub, ← EReal.coe_mul, ← EReal.coe_mul, ← EReal.coe_add]
  rfl

/-- The blended memory, imaginary part. -/
theorem nextI_at (b : Fin 1024) (s d : Fin 256) :
    val_main_v111 (F := Ideal) (up A0) (up A1) (up A3) G (single g) (up W) (bias B) (ix3 b s d)
      = (next (updAll A0 A1 G g W B b) (slab A3 b) (row A1 b) s d : EReal) := by
  pointwise [val_main_v111, val_main_v110, val_main_v109, val_main_v108, val_main_v107, val_main_v106, val_main_v105, val_main_v104, val_main_v1,
    val_main_cst_23]
  simp only [upd_at, up]
  rw [← EReal.coe_one, ← EReal.coe_sub, ← EReal.coe_mul, ← EReal.coe_mul, ← EReal.coe_add]
  rfl

/-- The mean of a blended slot, real part. -/
theorem meanR_at (b : Fin 1024) (s : Fin 256) :
    val_main_v115 (F := Ideal) (up A0) (up A1) (up A2) G (single g) (up W) (bias B) (ix3 b s (0 : Fin 1))
      = (mean (next (updAll A0 A1 G g W B b) (slab A2 b) (row A0 b) s) : EReal) := by
  pointwise [val_main_v115, val_main_v114, val_main_v113, val_main_v112, val_main_cst_24, val_main_cst_25]
  simp only [nextR_at, ← coe_sum]
  rw [show Ideal.ofBits FTy.f32 _ = _ from bits_256, div_real _ _ (by norm_num)]
  rfl

/-- The mean of a blended slot, imaginary part. -/
theorem meanI_at (b : Fin 1024) (s : Fin 256) :
    val_main_v139 (F := Ideal) (up A0) (up A1) (up A3) G (single g) (up W) (bias B) (ix3 b s (0 : Fin 1))
      = (mean (next (updAll A0 A1 G g W B b) (slab A3 b) (row A1 b) s) : EReal) := by
  pointwise [val_main_v139, val_main_v138, val_main_v137, val_main_v136, val_main_cst_29, val_main_cst_30]
  simp only [nextI_at, ← coe_sum]
  rw [show Ideal.ofBits FTy.f32 _ = _ from bits_256, div_real _ _ (by norm_num)]
  rfl

/-- The variance of a blended slot, real part. -/
theorem varR_at (b : Fin 1024) (s : Fin 256) :
    val_main_v122 (F := Ideal) (up A0) (up A1) (up A2) G (single g) (up W) (bias B) (ix3 b s (0 : Fin 1))
      = (var (next (updAll A0 A1 G g W B b) (slab A2 b) (row A0 b) s) : EReal) := by
  pointwise [val_main_v122, val_main_v121, val_main_v120, val_main_v119, val_main_v118, val_main_v117, val_main_v116, val_main_cst_26,
    val_main_cst_27]
  simp only [nextR_at, meanR_at, ← EReal.coe_sub, ← EReal.coe_mul, ← coe_sum]
  rw [show Ideal.ofBits FTy.f32 _ = _ from bits_256, div_real _ _ (by norm_num)]
  rfl

/-- The variance of a blended slot, imaginary part. -/
theorem varI_at (b : Fin 1024) (s : Fin 256) :
    val_main_v146 (F := Ideal) (up A0) (up A1) (up A3) G (single g) (up W) (bias B) (ix3 b s (0 : Fin 1))
      = (var (next (updAll A0 A1 G g W B b) (slab A3 b) (row A1 b) s) : EReal) := by
  pointwise [val_main_v146, val_main_v145, val_main_v144, val_main_v143, val_main_v142, val_main_v141, val_main_v140, val_main_cst_31,
    val_main_cst_32]
  simp only [nextI_at, meanI_at, ← EReal.coe_sub, ← EReal.coe_mul, ← coe_sum]
  rw [show Ideal.ofBits FTy.f32 _ = _ from bits_256, div_real _ _ (by norm_num)]
  rfl

variable (x8 x9 : FVec Ideal S256 .f32) (h8 : ∀ d, x8 (ix1 d) = 1) (h9 : ∀ d, x9 (ix1 d) = 0)
include h8 h9

/-- The next memory, real part. -/
theorem normR_at (b : Fin 1024) (s d : Fin 256) :
    val_main_v135 (F := Ideal) (up A0) (up A1) (up A2) G (single g) (up W) (bias B) x8 x9 (ix3 b s d)
      = (nextAll A0 (fun i => updAll A0 A1 G g W B (i 0) (i 1)) A2 b s d : EReal) := by
  pointwise [val_main_v135, val_main_v134, val_main_v133, val_main_v132, val_main_v131, val_main_v130, val_main_v129, val_main_v128,
    val_main_v127, val_main_v126, val_main_v125, val_main_v124, val_main_v123, val_main_cst_28]
  rw [nextR_at, meanR_at, varR_at, h8, h9, bits_ε6, norm_div, mul_one, add_zero]
  rfl

/-- The next memory, imaginary part. -/
theorem normI_at (b : Fin 1024) (s d : Fin 256) :
    val_main_v159 (F := Ideal) (up A0) (up A1) (up A3) G (single g) (up W) (bias B) x8 x9 (ix3 b s d)
      = (nextAll A1 (fun i => updAll A0 A1 G g W B (i 0) (i 1)) A3 b s d : EReal) := by
  pointwise [val_main_v159, val_main_v158, val_main_v157, val_main_v156, val_main_v155, val_main_v154, val_main_v153, val_main_v152,
    val_main_v151, val_main_v150, val_main_v149, val_main_v148, val_main_v147, val_main_cst_33]
  rw [nextI_at, meanI_at, varI_at, h8, h9, bits_ε6, norm_div, mul_one, add_zero]
  rfl

end Cert.Ref

end
-- ==== Proof.RefValue.lean ====
/-
  The reference's five results as whole arrays, from real arguments.
-/
module

public import proofs.«01_k».proof.Proof.RefNext

@[expose] public section

set_option maxRecDepth 16384

noncomputable section

namespace Cert.Ref

open Finset Idealize.ShloMosaic Cert.ReferenceIdeal Cert.ReferenceIdeal.Read Cert.Row
open Idealize.ShloMosaic.Pointwise

variable {x0 x1 : FVec Ideal S1024x256 .f32} {x2 x3 : FVec Ideal S1024x256x256 .f32} {x4 : FVec Ideal S512x1 .f32} {x5 : FVec Ideal S1 .f32}
  {x6 : FVec Ideal S512x256 .f32} {x7 x8 x9 : FVec Ideal S256 .f32}
  (A0 A1 : S1024x256.Idx → ℝ) (A2 A3 : S1024x256x256.Idx → ℝ) (G : FVec Ideal S512x1 .f32) (g : EReal) (W : S512x256.Idx → ℝ) (B : Fin 256 → ℝ)

/-- The first result: each row's reading of the real memory. -/
theorem value0 (h0 : x0 = up A0) (h1 : x1 = up A1) (h2 : x2 = up A2) (h3 : x3 = up A3) :
    val_main_v26 (F := Ideal) x0 x1 x2 x3 = arr2 (readAll A0 A1 A2 A3 A2) := by
  subst h0 h1 h2 h3
  funext i
  idx_vars i
  exact readR_at A0 A1 A2 A3 _ _

/-- The second result: each row's reading of the imaginary memory. -/
theorem value1 (h0 : x0 = up A0) (h1 : x1 = up A1) (h2 : x2 = up A2) (h3 : x3 = up A3) :
    val_main_v29 (F := Ideal) x0 x1 x2 x3 = arr2 (readAll A0 A1 A2 A3 A3) := by
  subst h0 h1 h2 h3
  funext i
  idx_vars i
  exact readI_at A0 A1 A2 A3 _ _

/-- The third result: the next real memory. -/
theorem value2 (h0 : x0 = up A0) (h1 : x1 = up A1) (h2 : x2 = up A2) (h4 : x4 = G) (h5 : x5 = single g) (h6 : x6 = up W) (h7 : x7 = bias B)
    (h8 : ∀ i, x8 i = 1) (h9 : ∀ i, x9 i = 0) :
    val_main_v135 (F := Ideal) x0 x1 x2 x4 x5 x6 x7 x8 x9 = arr3 (nextAll A0 (fun i => updAll A0 A1 G g W B (i 0) (i 1)) A2) := by
  subst h0 h1 h2 h5 h6 h7
  rw [h4]
  funext i
  idx_vars i
  exact normR_at A0 A1 A2 G g W B _ _ (fun _ => h8 _) (fun _ => h9 _) _ _ _

/-- The fourth result: the next imaginary memory. -/
theorem value3 (h0 : x0 = up A0) (h1 : x1 = up A1) (h3 : x3 = up A3) (h4 : x4 = G) (h5 : x5 = single g) (h6 : x6 = up W) (h7 : x7 = bias B)
    (h8 : ∀ i, x8 i = 1) (h9 : ∀ i, x9 i = 0) :
    val_main_v159 (F := Ideal) x0 x1 x3 x4 x5 x6 x7 x8 x9 = arr3 (nextAll A1 (fun i => updAll A0 A1 G g W B (i 0) (i 1)) A3) := by
  subst h0 h1 h3 h5 h6 h7
  rw [h4]
  funext i
  idx_vars i
  exact normI_at A0 A1 A3 G g W B _ _ (fun _ => h8 _) (fun _ => h9 _) _ _ _

/-- The fifth result: the mean entropy of the write weights. -/
theorem value4 (h0 : x0 = up A0) (h1 : x1 = up A1) (h6 : x6 = up W) (h7 : x7 = bias B) :
    val_main_v68 (F := Ideal) x0 x1 x6 x7 = fun _ => (entAll A0 A1 W B : EReal) := by
  subst h0 h1 h6 h7
  funext i
  exact entropy_at A0 A1 W B i

end Cert.Ref

end
-- ==== Proof.Drawn.lean ====
/-
  What the precondition says of the argument arrays: the state, the memory and the address's weights and biases are arrays of
  real numbers, the two normalisations'
  weights are ones and their biases zeros.
-/
module

public import proofs.«01_k».proof.Proof.Gen.Pre_as_drawn
public import Idealize.ShloMosaic.Lib.ReduceAll
public import Idealize.ShloMosaic.Lib.Pointwise

@[expose] public section

set_option maxRecDepth 16384

noncomputable section

namespace Cert.Drawn

open Idealize.ShloMosaic Cert.Pre_as_drawn
open Idealize.ShloMosaic.Pointwise

instance : Subsingleton S_.Idx := ⟨fun a b => funext fun d => d.elim0⟩

theorem both : ∀ a b : BitVec 1, IntOp.andi a b = 1#1 → a = 1#1 ∧ b = 1#1 := by decide

/-- An extended real whose absolute value is below infinity is a real. -/
theorem real_of_bounded (x : EReal) (h : max x (-x) < ⊤) : x = ((x.toReal : ℝ) : EReal) := by
  refine (EReal.coe_toReal ?_ ?_).symm
  · rintro rfl; simp at h
  · rintro rfl; simp at h

theorem bits_top : Ideal.ofBits .f32 0x7F800000#32 = ⊤ := by simp [Ideal.ofBits, Ideal.ieee]

section Checks
variable {s : Shape} {axes : List (Fin s.rank)} (x : FVec Ideal s .f32) (hb : S_.BroadcastsInDim s (![] : Fin 0 → Fin s.rank))
  (hr : s.ReducesTo axes S_) (hu : 0 < S_.numel)

/-- If every absolute value is below infinity, the array is one of reals. -/
theorem finite_of_check (h : Host.reduce IntOp.andi
      (cmpf .olt (Host.absf x) (broadcastInDim s ![] hb (constant (F := Ideal) S_ .f32 0x7F800000#32))) (constantI S_ 1 1#1) hr hu ix0 = 1#1) :
    x = fun i => (((x i).toReal : ℝ) : EReal) := by
  funext i
  have hi := Host.reduce_andi_all _ _ hr hu ix0 h i
  change BitVec.ofBool (decide (max (x i) (-(x i)) < Ideal.ofBits .f32 0x7F800000#32)) = 1#1 at hi
  rw [bits_top] at hi
  refine real_of_bounded _ ?_
  by_contra hn
  rw [decide_eq_false hn] at hi
  exact absurd hi (by decide)

/-- If every element compares equal to a number, the array is that number everywhere. -/
theorem const_of_check (w : BitVec 32) (h : Host.reduce IntOp.andi
      (cmpf .oeq x (broadcastInDim s ![] hb (constant (F := Ideal) S_ .f32 w))) (constantI S_ 1 1#1) hr hu ix0 = 1#1) (i : s.Idx) :
    x i = Ideal.ofBits .f32 w := by
  have hi := Host.reduce_andi_all _ _ hr hu ix0 h i
  change BitVec.ofBool (decide (x i = Ideal.ofBits .f32 w)) = 1#1 at hi
  by_contra hn
  rw [decide_eq_false hn] at hi
  exact absurd hi (by decide)

end Checks

theorem bits_one : Ideal.ofBits .f32 0x3F800000#32 = 1 := by
  rw [← EReal.coe_one]
  simp [Ideal.ofBits, Ideal.ieee, -EReal.coe_mul, -EReal.coe_one]
  norm_num

theorem bits_zero : Ideal.ofBits .f32 0x00000000#32 = 0 := by simp [Ideal.ofBits, Ideal.ieee]

/-- The precondition, read. -/
theorem read [Facts] (x0 x1 : FVec Ideal S1024x256 .f32) (x2 x3 : FVec Ideal S1024x256x256 .f32) (x4 : FVec Ideal S512x1 .f32)
    (x5 : FVec Ideal S1 .f32) (x6 : FVec Ideal S512x256 .f32) (x7 x8 x9 x10 x11 : FVec Ideal S256 .f32)
    (h : fn (F := Ideal) x0 x1 x2 x3 x4 x5 x6 x7 x8 x9 x10 x11 = fun _ => 1#1) :
    (x0 = fun i => (((x0 i).toReal : ℝ) : EReal)) ∧ (x1 = fun i => (((x1 i).toReal : ℝ) : EReal))
    ∧ (x2 = fun i => (((x2 i).toReal : ℝ) : EReal)) ∧ (x3 = fun i => (((x3 i).toReal : ℝ) : EReal))
    ∧ (x6 = fun i => (((x6 i).toReal : ℝ) : EReal)) ∧ (x7 = fun i => (((x7 i).toReal : ℝ) : EReal))
    ∧ (∀ i, x8 i = 1) ∧ (∀ i, x9 i = 0) ∧ (∀ i, x10 i = 1) ∧ (∀ i, x11 i = 0) := by
  have h0 := congrFun h ix0
  unfold fn fn_part1 fn_part2 at h0
  obtain ⟨h0, hb⟩ := both _ _ h0
  replace h0 := both _ _ h0
  obtain ⟨h0, hw⟩ := h0
  obtain ⟨h9, h11⟩ := both _ _ hb
  obtain ⟨h8, h10⟩ := both _ _ hw
  clear h hb hw
  replace h0 := both _ _ h0
  have h7 := h0.2
  replace h0 := h0.1
  replace h0 := both _ _ h0
  have h6 := h0.2
  replace h0 := h0.1
  replace h0 := both _ _ h0
  have h3 := h0.2
  replace h0 := h0.1
  replace h0 := both _ _ h0
  have h2 := h0.2
  replace h0 := h0.1
  replace h0 := both _ _ h0
  have h1 := h0.2
  replace h0 := h0.1
  replace h0 := (both _ _ h0).2
  replace h0 := finite_of_check _ _ _ _ h0
  replace h1 := finite_of_check _ _ _ _ h1
  replace h2 := finite_of_check _ _ _ _ h2
  replace h3 := finite_of_check _ _ _ _ h3
  replace h6 := finite_of_check _ _ _ _ h6
  replace h7 := finite_of_check _ _ _ _ h7
  replace h8 := const_of_check _ _ _ _ _ h8
  replace h9 := const_of_check _ _ _ _ _ h9
  replace h10 := const_of_check _ _ _ _ _ h10
  replace h11 := const_of_check _ _ _ _ _ h11
  exact ⟨h0, h1, h2, h3, h6, h7, fun i => (h8 i).trans bits_one, fun i => (h9 i).trans bits_zero,
    fun i => (h10 i).trans bits_one, fun i => (h11 i).trans bits_zero⟩

end Cert.Drawn

end
-- ==== Proof.Equation.lean ====
/-
  The value claim: the kernel and the reference end with the same five results wherever the precondition holds.
-/
module

public import proofs.«01_k».proof.Defs
public import proofs.«01_k».proof.Proof.KernelValue
public import proofs.«01_k».proof.Proof.RefValue
public import proofs.«01_k».proof.Proof.Drawn
public import proofs.«01_k».proof.Proof.Gen.ReferenceIdeal.Run
public import Idealize.ShloMosaic.Adequacy

@[expose] public section

set_option maxRecDepth 16384

noncomputable section

namespace Cert.Proof

open Finset Idealize.ShloMosaic Idealize.SL.Sem Cert.Row
open Idealize.ShloMosaic.TcCoe
open Idealize.ShloMosaic.Pointwise

section Arguments
open Cert.KernelIdeal
variable (m : (ℓ : Loc nD τ sig) → Buf (Elt Ideal) ℓ) (c : Dev nD)

/-- The state, the memory and the address's weights and biases as arrays of real numbers. -/
def qr (i : S1024x256.Idx) : ℝ := EReal.toReal (m ((c : Thread nD τ).loc main_arg0) i)
def qi (i : S1024x256.Idx) : ℝ := EReal.toReal (m ((c : Thread nD τ).loc main_arg1) i)
def memR (i : S1024x256x256.Idx) : ℝ := EReal.toReal (m ((c : Thread nD τ).loc main_arg2) i)
def memI (i : S1024x256x256.Idx) : ℝ := EReal.toReal (m ((c : Thread nD τ).loc main_arg3) i)
def addrW (i : S512x256.Idx) : ℝ := EReal.toReal (m ((c : Thread nD τ).loc main_arg6) i)
def addrB (d : Fin 256) : ℝ := EReal.toReal (m ((c : Thread nD τ).loc main_arg7) (ix1 d))

/-- The gate's weights and bias, which may be infinite. -/
def gateW : FVec Ideal S512x1 .f32 := m ((c : Thread nD τ).loc main_arg4)
def gateB : EReal := m ((c : Thread nD τ).loc main_arg5) (ix1 (0 : Fin 1))

/-- What the precondition leaves to use: the kernel's arguments are those arrays, and the normalisations' weights and
    biases, which only the reference applies, are ones and zeros. -/
theorem arguments (hpre : Cert.Pre_KernelIdeal_as_drawn (hPre_as_drawn := Cert.Pre_as_drawn.Gen.facts) m) :
    Cert.Kernels.Args m c (qr m c) (qi m c) (memR m c) (memI m c) (gateW m c) (gateB m c) (addrW m c) (addrB m c)
    ∧ (∀ i : S256.Idx, m ((c : Thread nD τ).loc main_arg8) i = (1 : EReal)) ∧ (∀ i : S256.Idx, m ((c : Thread nD τ).loc main_arg9) i = (0 : EReal))
    ∧ (∀ i : S256.Idx, m ((c : Thread nD τ).loc main_arg10) i = (1 : EReal)) ∧ (∀ i : S256.Idx, m ((c : Thread nD τ).loc main_arg11) i = (0 : EReal)) := by
  obtain ⟨h0, h1, h2, h3, h6, h7, h8, h9, h10, h11⟩ :=
    @Cert.Drawn.read Cert.Pre_as_drawn.Gen.facts _ _ _ _ _ _ _ _ _ _ _ _ (hpre c)
  refine ⟨⟨h0, h1, h2, h3, rfl, ?_, h6, h7.trans ?_⟩, h8, h9, h10, h11⟩
  · funext i
    idx_vars i
    obtain rfl := Subsingleton.elim i0 0
    rfl
  · funext i
    idx_vars i
    rfl

end Arguments

section Kernel
open Cert.KernelIdeal Cert.KernelIdeal.Gen

/-- Every execution of the kernel ends with these five results, its arguments being the arrays named. -/
theorem kernel_end (m : (ℓ : Loc nD τ sig) → Buf (Elt Ideal) ℓ) (ρ : Dev nD → PrngReg)
    (A0 A1 : Dev nD → S1024x256.Idx → ℝ) (A2 A3 : Dev nD → S1024x256x256.Idx → ℝ) (G : Dev nD → FVec Ideal S512x1 .f32) (g : Dev nD → EReal)
    (W : Dev nD → S512x256.Idx → ℝ) (B : Dev nD → Fin 256 → ℝ) (h : ∀ c, Cert.Kernels.Args m c (A0 c) (A1 c) (A2 c) (A3 c) (G c) (g c) (W c) (B c)) :
    θ_run defs (onTc (τ := τ) (main (F := Ideal))) ⟨m, fun _ => 0, ρ⟩ fun r => ∀ c : Dev nD,
      r.2.mem ((c.tc : Thread nD τ).loc main_v3_0) = arr2 (readAll (A0 c) (A1 c) (A2 c) (A3 c) (A2 c))
      ∧ r.2.mem ((c.tc : Thread nD τ).loc main_v3_1) = arr2 (readAll (A0 c) (A1 c) (A2 c) (A3 c) (A3 c))
      ∧ r.2.mem ((c.tc : Thread nD τ).loc main_v3_2)
          = arr3 (nextAll (A0 c) (fun i => updAll (A0 c) (A1 c) (G c) (g c) (W c) (B c) (i 0) (i 1)) (A2 c))
      ∧ r.2.mem ((c.tc : Thread nD τ).loc main_v3_3)
          = arr3 (nextAll (A1 c) (fun i => updAll (A0 c) (A1 c) (G c) (g c) (W c) (B c) (i 0) (i 1)) (A3 c))
      ∧ r.2.mem ((c.tc : Thread nD τ).loc main_v4) = (fun _ => (entAll (A0 c) (A1 c) (W c) (B c) : EReal)) := by
  refine (θ_run defs _ _).mono (fun r hr c => ?_) (Cert.KernelIdeal.Run.run_all (F := Ideal) m ρ)
  exact ⟨(hr.1 c _ (mem_uc main_v3_0 (by decide))).trans (Cert.Kernels.result0 m ρ c _ _ _ _ _ _ _ _ (h c)),
    (hr.1 c _ (mem_uc main_v3_1 (by decide))).trans (Cert.Kernels.result1 m ρ c _ _ _ _ _ _ _ _ (h c)),
    (hr.1 c _ (mem_uc main_v3_2 (by decide))).trans (Cert.Kernels.result2 m ρ c _ _ _ _ _ _ _ _ (h c)),
    (hr.1 c _ (mem_uc main_v3_3 (by decide))).trans (Cert.Kernels.result3 m ρ c _ _ _ _ _ _ _ _ (h c)),
    (hr.1 c _ (mem_uc main_v4 (by decide))).trans (Cert.Kernels.result4 m ρ c _ _ _ _ _ _ _ _ (h c))⟩

end Kernel

set_option maxHeartbeats 1000000 in
/-- The equation: where the precondition holds, both programs end with the same five results, their arguments unchanged. -/
theorem equation : Cert.algebraic_KernelIdeal_ReferenceIdeal_pre_as_drawn (hKernelIdeal := Cert.KernelIdeal.Gen.facts)
    (hReferenceIdeal := Cert.ReferenceIdeal.Gen.facts) (hPre_as_drawn := Cert.Pre_as_drawn.Gen.facts) := by
  intro m g m' g' hpre hagree
  have hk := fun c => arguments m c hpre
  refine ⟨fun c => arr2 (readAll (qr m c) (qi m c) (memR m c) (memI m c) (memR m c)),
    fun c => arr2 (readAll (qr m c) (qi m c) (memR m c) (memI m c) (memI m c)),
    fun c => arr3 (nextAll (qr m c) (fun i => updAll (qr m c) (qi m c) (gateW m c) (gateB m c) (addrW m c) (addrB m c) (i 0) (i 1)) (memR m c)),
    fun c => arr3 (nextAll (qi m c) (fun i => updAll (qr m c) (qi m c) (gateW m c) (gateB m c) (addrW m c) (addrB m c) (i 0) (i 1)) (memI m c)),
    fun c => fun _ => (entAll (qr m c) (qi m c) (addrW m c) (addrB m c) : EReal), ?_, ?_⟩
  · refine (θ_run Cert.KernelIdeal.defs _ _).mono (fun r hr c => ?_) (θ_run_and (kernel_end m g (qr m) (qi m) (memR m) (memI m) (gateW m)
      (gateB m) (addrW m) (addrB m) fun c => (hk c).1) (Cert.KernelIdeal.Gen.frame (F := Ideal) m g))
    obtain ⟨r0, r1, r2, r3, r4⟩ := hr.1 c
    exact ⟨r0, r1, r2, r3, r4, hr.2.1 c⟩
  · refine (θ_run Cert.ReferenceIdeal.defs _ _).mono (fun r hr c => ?_) (Cert.ReferenceIdeal.Value.run (F := Ideal) m' g')
    obtain ⟨e0, e1, e2, e3, e4, e5, e6, e7, e8, e9, e10, e11⟩ := hagree c
    obtain ⟨ha, hw8, hw9, hw10, hw11⟩ := hk c
    obtain ⟨r0, r1, r2, r3, r4, rest⟩ := hr c
    refine ⟨?_, ?_, ?_, ?_, ?_, rest⟩
    · exact r0.trans ((Cert.ReferenceIdeal.Read.val_main_v26_eq _).trans
        (Cert.Ref.value0 _ _ _ _ (e0.trans ha.a0) (e1.trans ha.a1) (e2.trans ha.a2) (e3.trans ha.a3)))
    · exact r1.trans ((Cert.ReferenceIdeal.Read.val_main_v29_eq _).trans
        (Cert.Ref.value1 _ _ _ _ (e0.trans ha.a0) (e1.trans ha.a1) (e2.trans ha.a2) (e3.trans ha.a3)))
    · exact r2.trans ((Cert.ReferenceIdeal.Read.val_main_v135_eq _).trans
        (Cert.Ref.value2 _ _ _ _ _ _ _ (e0.trans ha.a0) (e1.trans ha.a1) (e2.trans ha.a2) (e4.trans ha.a4) (e5.trans ha.a5) (e6.trans ha.a6)
          (e7.trans ha.a7) (fun i => (congrFun e8 i).trans (hw8 i)) (fun i => (congrFun e9 i).trans (hw9 i))))
    · exact r3.trans ((Cert.ReferenceIdeal.Read.val_main_v159_eq _).trans
        (Cert.Ref.value3 _ _ _ _ _ _ _ (e0.trans ha.a0) (e1.trans ha.a1) (e3.trans ha.a3) (e4.trans ha.a4) (e5.trans ha.a5) (e6.trans ha.a6)
          (e7.trans ha.a7) (fun i => (congrFun e10 i).trans (hw10 i)) (fun i => (congrFun e11 i).trans (hw11 i))))
    · exact r4.trans ((Cert.ReferenceIdeal.Read.val_main_v68_eq _).trans
        (Cert.Ref.value4 _ _ _ _ (e0.trans ha.a0) (e1.trans ha.a1) (e6.trans ha.a6) (e7.trans ha.a7)))

end Cert.Proof

end
-- ==== Proof.lean ====
/- The certificate's claims, assembled: the frames of the three programs, the idealization (which rewrites nothing), and the
   equality of the kernel's five results with the reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_as_drawn
public import proofs.«01_k».proof.Proof.Equation

@[expose] public section

noncomputable section

namespace Cert.Proof

open Idealize.ShloMosaic Idealize.SL.Sem

/-- The reference ends with its arguments unchanged and every semaphore counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_as_drawn.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, equation⟩

end Cert.Proof

end
